-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2_beta1" .f32 0xBE1BA6B3#32 (((Real.log (9 / 10)) * (Real.log 2)⁻¹ : ℝ) : EReal)
  ∧ IdealRules.named_const.Statement Cert.KernelIdeal.κ "log2_beta2" .f32 0xBD978D9E#32 (((Real.log (19 / 20)) * (Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "log2_max" .f32 0x410CEAED#32 (((Real.log 448) * (Real.log 2)⁻¹ : ℝ) : EReal)
  ∧ IdealRules.sign_bit.Statement Cert.KernelIdeal.S32x128 .f32
  ∧ IdealRules.named_const.Statement Cert.KernelIdeal.κ "beta1" .f32 0x3F666666#32 ((9 / 10 : ℝ) : EReal)
  ∧ IdealRules.named_const.Statement Cert.KernelIdeal.κ "beta2" .f32 0x3F733333#32 ((19 / 20 : ℝ) : EReal)
  ∧ IdealRules.named_const.Statement Cert.KernelIdeal.κ "log2_range_8" .f32 0x400E7576#32 ((((Real.log 229376) * (Real.log 2)⁻¹) * 8⁻¹ : ℝ) : EReal)
  ∧ IdealRules.named_const.Statement Cert.KernelIdeal.κ "log2_range" .f32 0x418E7576#32 (((Real.log 229376) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v23)) (v4 : (c : Dev Cert.KernelIdeal.nD) → Buf (Elt Ideal) ((c.tc : Thread Cert.KernelIdeal.nD Cert.KernelIdeal.τ).loc Cert.KernelIdeal.main_v24)) (v5 : (c : Dev Cert.KernelIdeal.nD) → Buf (Elt Ideal) ((c.tc : Thread Cert.KernelIdeal.nD Cert.KernelIdeal.τ).loc Cert.KernelIdeal.main_v26)) (v6 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_v24) = v4 c
          ∧ r.2.mem ((c.tc : Thread Cert.KernelIdeal.nD Cert.KernelIdeal.τ).loc Cert.KernelIdeal.main_v26) = v5 c
          ∧ r.2.mem ((c.tc : Thread Cert.KernelIdeal.nD Cert.KernelIdeal.τ).loc Cert.KernelIdeal.main_v28) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_v1_5) = v5 c
          ∧ r.2.mem ((c.tc : Thread Cert.ReferenceIdeal.nD Cert.ReferenceIdeal.τ).loc Cert.ReferenceIdeal.main_v1_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x102400 : Shape := ⟨3, ![2, 128, 102400]⟩
abbrev S2x128x800 : Shape := ⟨3, ![2, 128, 800]⟩
abbrev S_ : Shape := ⟨0, ![]⟩
abbrev S1 : Shape := ⟨1, ![1]⟩
abbrev S256x102400 : Shape := ⟨2, ![256, 102400]⟩
abbrev S256x800 : Shape := ⟨2, ![256, 800]⟩
abbrev S256x50x16 : Shape := ⟨3, ![256, 50, 16]⟩
abbrev S50x256x16 : Shape := ⟨3, ![50, 256, 16]⟩
abbrev S32x2048 : Shape := ⟨2, ![32, 2048]⟩
abbrev S1x32x16 : Shape := ⟨3, ![1, 32, 16]⟩
abbrev S1x1 : Shape := ⟨2, ![1, 1]⟩
abbrev S32x128 : Shape := ⟨2, ![32, 128]⟩
abbrev S1x32x1 : Shape := ⟨3, ![1, 32, 1]⟩
abbrev S32x1 : Shape := ⟨2, ![32, 1]⟩
abbrev S32 : Shape := ⟨1, ![32]⟩

abbrev nBuf : Space → Nat
  | .hbm => 44
  | .vmem => 30
  | .smem => 1
  | _ => 0

abbrev bufTy : (tb : Table) → Fin (tcTables nBuf tb) → BufTy
  | .hbm, ⟨0, _⟩ => ⟨S2x128x102400, .f32⟩
  | .hbm, ⟨1, _⟩ => ⟨S2x128x102400, .bf16⟩
  | .hbm, ⟨2, _⟩ => ⟨S2x128x102400, .fp8e4m3⟩
  | .hbm, ⟨3, _⟩ => ⟨S2x128x800, .f32⟩
  | .hbm, ⟨4, _⟩ => ⟨S2x128x800, .f32⟩
  | .hbm, ⟨5, _⟩ => ⟨S2x128x102400, .fp8e4m3⟩
  | .hbm, ⟨6, _⟩ => ⟨S2x128x800, .f32⟩
  | .hbm, ⟨7, _⟩ => ⟨S2x128x800, .f32⟩
  | .hbm, ⟨8, _⟩ => ⟨S_, .i32⟩
  | .hbm, ⟨9, _⟩ => ⟨S1, .i32⟩
  | .hbm, ⟨10, _⟩ => ⟨S256x102400, .f32⟩
  | .hbm, ⟨11, _⟩ => ⟨S256x102400, .bf16⟩
  | .hbm, ⟨12, _⟩ => ⟨S256x102400, .fp8e4m3⟩
  | .hbm, ⟨13, _⟩ => ⟨S256x800, .f32⟩
  | .hbm, ⟨14, _⟩ => ⟨S256x50x16, .f32⟩
  | .hbm, ⟨15, _⟩ => ⟨S50x256x16, .f32⟩
  | .hbm, ⟨16, _⟩ => ⟨S256x800, .f32⟩
  | .hbm, ⟨17, _⟩ => ⟨S256x50x16, .f32⟩
  | .hbm, ⟨18, _⟩ => ⟨S50x256x16, .f32⟩
  | .hbm, ⟨19, _⟩ => ⟨S256x102400, .fp8e4m3⟩
  | .hbm, ⟨20, _⟩ => ⟨S256x800, .f32⟩
  | .hbm, ⟨21, _⟩ => ⟨S256x50x16, .f32⟩
  | .hbm, ⟨22, _⟩ => ⟨S50x256x16, .f32⟩
  | .hbm, ⟨23, _⟩ => ⟨S256x800, .f32⟩
  | .hbm, ⟨24, _⟩ => ⟨S256x50x16, .f32⟩
  | .hbm, ⟨25, _⟩ => ⟨S50x256x16, .f32⟩
  | .hbm, ⟨26, _⟩ => ⟨S256x102400, .f32⟩
  | .hbm, ⟨27, _⟩ => ⟨S256x102400, .fp8e4m3⟩
  | .hbm, ⟨28, _⟩ => ⟨S50x256x16, .f32⟩
  | .hbm, ⟨29, _⟩ => ⟨S50x256x16, .f32⟩
  | .hbm, ⟨30, _⟩ => ⟨S256x102400, .fp8e4m3⟩
  | .hbm, ⟨31, _⟩ => ⟨S50x256x16, .f32⟩
  | .hbm, ⟨32, _⟩ => ⟨S50x256x16, .f32⟩
  | .hbm, ⟨33, _⟩ => ⟨S2x128x102400, .f32⟩
  | .hbm, ⟨34, _⟩ => ⟨S2x128x102400, .fp8e4m3⟩
  | .hbm, ⟨35, _⟩ => ⟨S256x50x16, .f32⟩
  | .hbm, ⟨36, _⟩ => ⟨S2x128x800, .f32⟩
  | .hbm, ⟨37, _⟩ => ⟨S256x50x16, .f32⟩
  | .hbm, ⟨38, _⟩ => ⟨S2x128x800, .f32⟩
  | .hbm, ⟨39, _⟩ => ⟨S2x128x102400, .fp8e4m3⟩
  | .hbm, ⟨40, _⟩ => ⟨S256x50x16, .f32⟩
  | .hbm, ⟨41, _⟩ => ⟨S2x128x800, .f32⟩
  | .hbm, ⟨42, _⟩ => ⟨S256x50x16, .f32⟩
  | .hbm, ⟨43, _⟩ => ⟨S2x128x800, .f32⟩
  | .local _ .vmem, ⟨0, _⟩ => ⟨S32x2048, .f32⟩
  | .local _ .vmem, ⟨1, _⟩ => ⟨S32x2048, .f32⟩
  | .local _ .vmem, ⟨2, _⟩ => ⟨S32x2048, .bf16⟩
  | .local _ .vmem, ⟨3, _⟩ => ⟨S32x2048, .bf16⟩
  | .local _ .vmem, ⟨4, _⟩ => ⟨S32x2048, .fp8e4m3⟩
  | .local _ .vmem, ⟨5, _⟩ => ⟨S32x2048, .fp8e4m3⟩
  | .local _ .vmem, ⟨6, _⟩ => ⟨S1x32x16, .f32⟩
  | .local _ .vmem, ⟨7, _⟩ => ⟨S1x32x16, .f32⟩
  | .local _ .vmem, ⟨8, _⟩ => ⟨S1x32x16, .f32⟩
  | .local _ .vmem, ⟨9, _⟩ => ⟨S1x32x16, .f32⟩
  | .local _ .vmem, ⟨10, _⟩ => ⟨S32x2048, .fp8e4m3⟩
  | .local _ .vmem, ⟨11, _⟩ => ⟨S32x2048, .fp8e4m3⟩
  | .local _ .vmem, ⟨12, _⟩ => ⟨S1x32x16, .f32⟩
  | .local _ .vmem, ⟨13, _⟩ => ⟨S1x32x16, .f32⟩
  | .local _ .vmem, ⟨14, _⟩ => ⟨S1x32x16, .f32⟩
  | .local _ .vmem, ⟨15, _⟩ => ⟨S1x32x16, .f32⟩
  | .local _ .vmem, ⟨16, _⟩ => ⟨S32x2048, .f32⟩
  | .local _ .vmem, ⟨17, _⟩ => ⟨S32x2048, .f32⟩
  | .local _ .vmem, ⟨18, _⟩ => ⟨S32x2048, .fp8e4m3⟩
  | .local _ .vmem, ⟨19, _⟩ => ⟨S32x2048, .fp8e4m3⟩
  | .local _ .vmem, ⟨20, _⟩ => ⟨S1x32x16, .f32⟩
  | .local _ .vmem, ⟨21, _⟩ => ⟨S1x32x16, .f32⟩
  | .local _ .vmem, ⟨22, _⟩ => ⟨S1x32x16, .f32⟩
  | .local _ .vmem, ⟨23, _⟩ => ⟨S1x32x16, .f32⟩
  | .local _ .vmem, ⟨24, _⟩ => ⟨S32x2048, .fp8e4m3⟩
  | .local _ .vmem, ⟨25, _⟩ => ⟨S32x2048, .fp8e4m3⟩
  | .local _ .vmem, ⟨26, _⟩ => ⟨S1x32x16, .f32⟩
  | .local _ .vmem, ⟨27, _⟩ => ⟨S1x32x16, .f32⟩
  | .local _ .vmem, ⟨28, _⟩ => ⟨S1x32x16, .f32⟩
  | .local _ .vmem, ⟨29, _⟩ => ⟨S1x32x16, .f32⟩
  | .local _ .smem, ⟨0, _⟩ => ⟨S1, .i32⟩
  | _, _ => ⟨S2x128x102400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev main_v17_4 : Ref sig .tc := ⟨.hbm, 30, rfl⟩
abbrev main_v17_5 : Ref sig .tc := ⟨.hbm, 31, rfl⟩
abbrev main_v17_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [BitOps F]

abbrev grid0 : Pipeline.Grid := ⟨2, ![8, 50], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x2048 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x32x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x2048 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x32x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x32x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "beta1" => some ((9 / 10 : ℝ) : EReal)
  | "beta2" => some ((19 / 20 : ℝ) : EReal)
  | "ln2" => some ((Real.log 2 : ℝ) : EReal)
  | "log2_beta1" => some (((Real.log (9 / 10)) * (Real.log 2)⁻¹ : ℝ) : EReal)
  | "log2_beta2" => some (((Real.log (19 / 20)) * (Real.log 2)⁻¹ : ℝ) : EReal)
  | "log2_max" => some (((Real.log 448) * (Real.log 2)⁻¹ : ℝ) : EReal)
  | "log2_range" => some (((Real.log 229376) * (Real.log 2)⁻¹ : ℝ) : EReal)
  | "log2_range_8" => some ((((Real.log 229376) * (Real.log 2)⁻¹) * 8⁻¹ : ℝ) : EReal)
  | _ => none
-- ==== ReferenceIdeal.lean ====
abbrev S2x128x102400 : Shape := ⟨3, ![2, 128, 102400]⟩
abbrev S2x128x800 : Shape := ⟨3, ![2, 128, 800]⟩
abbrev S_ : Shape := ⟨0, ![]⟩
abbrev S1 : Shape := ⟨1, ![1]⟩
abbrev S2x128x800x128 : Shape := ⟨4, ![2, 128, 800, 128]⟩
abbrev S2x128x800x1 : Shape := ⟨4, ![2, 128, 800, 1]⟩

abbrev nBuf : Space → Nat
  | .hbm => 17
  | .vmem => 15
  | .smem => 1
  | _ => 0

abbrev bufTy : (tb : Table) → Fin (tcTables nBuf tb) → BufTy
  | .hbm, ⟨0, _⟩ => ⟨S2x128x102400, .f32⟩
  | .hbm, ⟨1, _⟩ => ⟨S2x128x102400, .bf16⟩
  | .hbm, ⟨2, _⟩ => ⟨S2x128x102400, .fp8e4m3⟩
  | .hbm, ⟨3, _⟩ => ⟨S2x128x800, .f32⟩
  | .hbm, ⟨4, _⟩ => ⟨S2x128x800, .f32⟩
  | .hbm, ⟨5, _⟩ => ⟨S2x128x102400, .fp8e4m3⟩
  | .hbm, ⟨6, _⟩ => ⟨S2x128x800, .f32⟩
  | .hbm, ⟨7, _⟩ => ⟨S2x128x800, .f32⟩
  | .hbm, ⟨8, _⟩ => ⟨S_, .i32⟩
  | .hbm, ⟨9, _⟩ => ⟨S1, .i32⟩
  | .hbm, ⟨10, _⟩ => ⟨S2x128x102400, .f32⟩
  | .hbm, ⟨11, _⟩ => ⟨S2x128x102400, .fp8e4m3⟩
  | .hbm, ⟨12, _⟩ => ⟨S2x128x800, .f32⟩
  | .hbm, ⟨13, _⟩ => ⟨S2x128x800, .f32⟩
  | .hbm, ⟨14, _⟩ => ⟨S2x128x102400, .fp8e4m3⟩
  | .hbm, ⟨15, _⟩ => ⟨S2x128x800, .f32⟩
  | .hbm, ⟨16, _⟩ => ⟨S2x128x800, .f32⟩
  | .local _ .vmem, ⟨0, _⟩ => ⟨S2x128x102400, .f32⟩
  | .local _ .vmem, ⟨1, _⟩ => ⟨S2x128x102400, .bf16⟩
  | .local _ .vmem, ⟨2, _⟩ => ⟨S2x128x102400, .fp8e4m3⟩
  | .local _ .vmem, ⟨3, _⟩ => ⟨S2x128x800, .f32⟩
  | .local _ .vmem, ⟨4, _⟩ => ⟨S2x128x800, .f32⟩
  | .local _ .vmem, ⟨5, _⟩ => ⟨S2x128x102400, .fp8e4m3⟩
  | .local _ .vmem, ⟨6, _⟩ => ⟨S2x128x800, .f32⟩
  | .local _ .vmem, ⟨7, _⟩ => ⟨S2x128x800, .f32⟩
  | .local _ .vmem, ⟨8, _⟩ => ⟨S2x128x102400, .f32⟩
  | .local _ .vmem, ⟨9, _⟩ => ⟨S2x128x102400, .fp8e4m3⟩
  | .local _ .vmem, ⟨10, _⟩ => ⟨S2x128x800, .f32⟩
  | .local _ .vmem, ⟨11, _⟩ => ⟨S2x128x800, .f32⟩
  | .local _ .vmem, ⟨12, _⟩ => ⟨S2x128x102400, .fp8e4m3⟩
  | .local _ .vmem, ⟨13, _⟩ => ⟨S2x128x800, .f32⟩
  | .local _ .vmem, ⟨14, _⟩ => ⟨S2x128x800, .f32⟩
  | .local _ .smem, ⟨0, _⟩ => ⟨S1, .i32⟩
  | _, _ => ⟨S2x128x102400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F] [Named F]

def κ : String → Option EReal := fun
  | "beta1" => some ((9 / 10 : ℝ) : EReal)
  | "beta2" => some ((19 / 20 : ℝ) : EReal)
  | "ln_range" => some ((Real.log 229376 : ℝ) : EReal)
  | "ln_range_8" => some (((Real.log 229376) * 8⁻¹ : ℝ) : EReal)
  | _ => none

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x102400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x102400 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x102400 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x800 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x800 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x102400 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x800 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x800 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128x102400 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128x102400 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x128x800 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x128x800 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x128x102400 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x128x800 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x128x800 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.Adam.Spec.lean ====
/- The arithmetic of the optimizer step on one entry, or on one group of 128 entries, over the extended reals:
   each quantity as the reference writes it (natural logarithms and exponentials, a power) and as the kernel writes it
   (base-two logarithms and exponentials), and the equality of the two writings. No program is named here. -/
module

public import Idealize.ShloMosaic.PureOps.Ideal
public import Mathlib.Analysis.SpecialFunctions.Pow.Real

@[expose] public section

noncomputable section

namespace Cert.Adam

open Idealize.ShloMosaic

/-- The magnitude of an extended real. -/
def mag (x : EReal) : EReal := max x (-x)

/-- The sign factor: `-1`, `0` or `1`. -/
def sg (x : EReal) : EReal := if 0 < mag x then (if x < 0 then -1 else 1) else x

/-- The base-two constant that turns a natural logarithm into a base-two one. -/
def ln2 : EReal := ((Real.log 2 : ℝ) : EReal)
/-- `log₂ 448`. -/
def log2Max : EReal := ((Real.log 448 * (Real.log 2)⁻¹ : ℝ) : EReal)
/-- `log₂ 229376`, the base-two logarithm of the ratio of the largest to the smallest positive code. -/
def log2Range : EReal := ((Real.log 229376 * (Real.log 2)⁻¹ : ℝ) : EReal)
/-- One eighth of `log2Range`. -/
def log2Range8 : EReal := (((Real.log 229376 * (Real.log 2)⁻¹) * 8⁻¹ : ℝ) : EReal)
/-- `ln 229376`. -/
def lnRange : EReal := ((Real.log 229376 : ℝ) : EReal)
/-- One eighth of `lnRange`. -/
def lnRange8 : EReal := ((Real.log 229376 * 8⁻¹ : ℝ) : EReal)

/-! ## The quantities -/

/-- A stored code decoded, the reference's way: the code's sign times the scale times `(|q| / 448)^(1/k)`. -/
def refDeq (q s k : EReal) : EReal :=
  if q = 0 then 0 else sg q * s * Ideal.exp (Ideal.div (Ideal.log (Ideal.div (if q = 0 then ((448 : ℝ) : EReal) else mag q) ((448 : ℝ) : EReal))) k)

/-- A stored code decoded, the kernel's way. -/
def kerDeq (q s k : EReal) : EReal :=
  if q = 0 then 0 else sg q * s * Ideal.exp2 (Ideal.div (Ideal.div (Ideal.log (mag q)) ln2 - log2Max) k)

/-- The largest magnitude of a group. -/
def amax (x : Fin 128 → EReal) : EReal := (Finset.univ : Finset (Fin 128)).fold max ⊥ (fun j => mag (x j))

/-- The smallest nonzero magnitude of a group (`⊤` when all are zero). -/
def amin (x : Fin 128 → EReal) : EReal :=
  (Finset.univ : Finset (Fin 128)).fold min ⊤ (fun j => if 0 < mag (x j) then mag (x j) else ⊤)

/-- A group's scale from its largest magnitude. -/
def scale (a : EReal) : EReal := if 0 < a then a else 1

/-- A group's exponent, the reference's way, from its largest and smallest nonzero magnitude. -/
def refPow (a b : EReal) : EReal :=
  if 0 < a then Ideal.div lnRange (max (Ideal.log (scale a) - Ideal.log (if 0 < a then b else 1)) lnRange8) else 1

/-- A group's exponent, the kernel's way. -/
def kerPow (a b : EReal) : EReal :=
  if 0 < a then Ideal.div log2Range
    (max (Ideal.div (Ideal.log (scale a)) ln2 - Ideal.div (Ideal.log (if 0 < a then b else 1)) ln2) log2Range8) else 1

/-- The magnitude of an entry's code before clipping, the reference's way. -/
def refY (x s k : EReal) : EReal :=
  if x = 0 then 0 else ((448 : ℝ) : EReal) * Ideal.exp (k * Ideal.log (Ideal.div (if x = 0 then 1 else mag x) s))

/-- The magnitude of an entry's code before clipping, the kernel's way. -/
def kerY (x s k : EReal) : EReal :=
  if 0 < mag x then Ideal.exp2 (k * (Ideal.div (Ideal.log (mag x)) ln2 - Ideal.div (Ideal.log s) ln2) + log2Max) else 0

/-- The code: the sign times the magnitude clipped to the format's range. -/
def clip (x y : EReal) : EReal := sg x * min ((448 : ℝ) : EReal) (max 0 y)

/-- The first moment after the step. -/
def mom1 (μ g : EReal) : EReal := ((9 / 10 : ℝ) : EReal) * μ + Ideal.ofBits .f32 0x3DCCCCCD#32 * g

/-- The second moment after the step. -/
def mom2 (ν g : EReal) : EReal := ((19 / 20 : ℝ) : EReal) * ν + Ideal.ofBits .f32 0x3D4CCCCD#32 * g * g

/-- The bias correction `1 - β^t`. -/
def refBc (β t : EReal) : EReal := 1 - Ideal.pow β t

/-- The bias correction as the kernel writes it, from `log₂ β`. -/
def kerBc (lβ t : EReal) : EReal := 1 - Ideal.exp2 (t * lβ)

/-- The update, weight decay included. -/
def upd (m v bc1 bc2 w : EReal) : EReal :=
  Ideal.div (Ideal.div m bc1) (Ideal.sqrt (Ideal.div v bc2) + Ideal.ofBits .f32 0x322BCC77#32)
    + Ideal.ofBits .f32 0x3DCCCCCD#32 * w

/-! ## The two writings agree -/

theorem log_two_pos : (0 : ℝ) < Real.log 2 := Real.log_pos (by norm_num)

/-- Dividing by `ln 2` is multiplying by its inverse. -/
theorem div_ln2 (x : EReal) : Ideal.div x ln2 = x * (((Real.log 2)⁻¹ : ℝ) : EReal) := by
  rw [ln2, Ideal.div_coe log_two_pos.ne', one_div]

/-- `2^(y / ln 2) = e^y`, at the infinities too. -/
theorem exp2_mul_inv_ln2 (y : EReal) : Ideal.exp2 (y * (((Real.log 2)⁻¹ : ℝ) : EReal)) = Ideal.exp y := by
  have hc : (0 : ℝ) < (Real.log 2)⁻¹ := inv_pos.mpr log_two_pos
  induction y with
  | bot => rw [EReal.bot_mul_coe_of_pos hc]; rfl
  | top => rw [EReal.top_mul_coe_of_pos hc]; rfl
  | coe r =>
    rw [← EReal.coe_mul, Ideal.exp2_coe, Ideal.exp_coe]
    congr 1
    show (2 : ℝ) ^ (r * (Real.log 2)⁻¹) = _
    rw [Real.rpow_def_of_pos (by norm_num)]
    congr 1
    field_simp [log_two_pos.ne']

/-- Multiplying by a positive real commutes with dividing by anything. -/
theorem exp2_div_scaled (B k : EReal) :
    Ideal.exp2 (Ideal.div (B * (((Real.log 2)⁻¹ : ℝ) : EReal)) k) = Ideal.exp (Ideal.div B k) := by
  have hc : (0 : ℝ) < (Real.log 2)⁻¹ := inv_pos.mpr log_two_pos
  unfold Ideal.div
  by_cases hk : k = 0
  · rw [if_pos hk, if_pos hk]
    have h : 0 < B * (((Real.log 2)⁻¹ : ℝ) : EReal) ↔ 0 < B := by
      induction B with
      | bot => rw [EReal.bot_mul_coe_of_pos hc]
      | top => rw [EReal.top_mul_coe_of_pos hc]
      | coe r => rw [← EReal.coe_mul, EReal.coe_pos, EReal.coe_pos]; exact mul_pos_iff_of_pos_right hc
    by_cases hB : 0 < B
    · rw [if_pos (h.mpr hB), if_pos hB]; rfl
    · rw [if_neg (fun x => hB (h.mp x)), if_neg hB]; rfl
  · rw [if_neg hk, if_neg hk, mul_right_comm, exp2_mul_inv_ln2]

/-- A nonzero entry has a positive magnitude. -/
theorem mag_pos {x : EReal} (h : x ≠ 0) : 0 < mag x := by
  unfold mag
  rcases lt_or_gt_of_ne h with h | h
  · exact lt_max_of_lt_right (by rwa [EReal.neg_pos])
  · exact lt_max_of_lt_left h

/-- Zero has magnitude zero. -/
theorem mag_zero : mag 0 = 0 := by simp [mag]

/-- The magnitude is positive exactly off zero. -/
theorem mag_pos_iff {x : EReal} : 0 < mag x ↔ x ≠ 0 :=
  ⟨fun h e => by rw [e, mag_zero] at h; exact lt_irrefl _ h, mag_pos⟩

/-- The base-two logarithm of a positive magnitude less `log₂ 448` is `ln (p / 448)` over `ln 2`. -/
theorem log_ratio_448 {p : EReal} (hp : 0 < p) :
    Ideal.div (Ideal.log p) ln2 - log2Max
      = Ideal.log (Ideal.div p ((448 : ℝ) : EReal)) * (((Real.log 2)⁻¹ : ℝ) : EReal) := by
  have hc : (0 : ℝ) < (Real.log 2)⁻¹ := inv_pos.mpr log_two_pos
  rw [div_ln2, Ideal.div_coe (by norm_num : (448 : ℝ) ≠ 0)]
  induction p with
  | bot => exact absurd hp (not_lt_of_ge bot_le)
  | top =>
    rw [EReal.top_mul_coe_of_pos (by norm_num), Ideal.log_top, EReal.top_mul_coe_of_pos hc, log2Max, EReal.top_sub_coe]
  | coe r =>
    have hr : 0 < r := EReal.coe_pos.mp hp
    have hr' : 0 < r * (1 / 448) := by positivity
    rw [← EReal.coe_mul, Ideal.log_coe, Ideal.log_coe, if_neg (not_le.mpr hr), if_neg (not_le.mpr hr'),
      ← EReal.coe_mul, ← EReal.coe_mul, log2Max, ← EReal.coe_sub, Real.log_mul hr.ne' (by norm_num), one_div,
      Real.log_inv]
    congr 1
    ring

/-- Decoding is the same both ways. -/
theorem kerDeq_eq (q s k : EReal) : kerDeq q s k = refDeq q s k := by
  unfold kerDeq refDeq
  by_cases h : q = 0
  · rw [if_pos h, if_pos h]
  · rw [if_neg h, if_neg h, if_neg h, log_ratio_448 (mag_pos h), exp2_div_scaled]

/-- The bias correction is the same both ways: `2^(t log₂ β) = β^t` for a real `t` and a positive real `β`. -/
theorem kerBc_eq {β : ℝ} (hβ : 0 < β) (t : ℝ) :
    kerBc ((Real.log β * (Real.log 2)⁻¹ : ℝ) : EReal) (t : EReal) = refBc (β : EReal) (t : EReal) := by
  unfold kerBc refBc
  congr 1
  rw [show ((t : EReal) * ((Real.log β * (Real.log 2)⁻¹ : ℝ) : EReal)) = ((t * Real.log β : ℝ) : EReal) * (((Real.log 2)⁻¹ : ℝ) : EReal) by
    rw [← EReal.coe_mul, ← EReal.coe_mul, mul_assoc], exp2_mul_inv_ln2]
  show ((Real.exp (t * Real.log β) : ℝ) : EReal) = ((β ^ t : ℝ) : EReal)
  rw [Real.rpow_def_of_pos hβ, mul_comm]

theorem log_range_pos : (0 : ℝ) < Real.log 229376 := Real.log_pos (by norm_num)

/-- The larger of anything and a positive real is `⊤` or a positive real. -/
theorem max_coe_cases (d : EReal) {l : ℝ} (hl : 0 < l) :
    max d (l : EReal) = ⊤ ∨ ∃ M : ℝ, 0 < M ∧ max d (l : EReal) = (M : EReal) := by
  induction d with
  | bot => exact .inr ⟨l, hl, max_eq_right bot_le⟩
  | top => exact .inl (max_eq_left le_top)
  | coe r => exact .inr ⟨max r l, lt_max_of_lt_right hl, (EReal.coe_strictMono.monotone.map_max (a := r) (b := l)).symm⟩

/-- The exponent is the same both ways. -/
theorem kerPow_eq (a b : EReal) : kerPow a b = refPow a b := by
  have hc : (0 : ℝ) < (Real.log 2)⁻¹ := inv_pos.mpr log_two_pos
  unfold kerPow refPow
  by_cases h : 0 < a
  · simp only [if_pos h]
    generalize Ideal.log (scale a) = A
    generalize Ideal.log b = B
    rw [div_ln2, div_ln2]
    have h8 : log2Range8 = lnRange8 * (((Real.log 2)⁻¹ : ℝ) : EReal) := by
      rw [log2Range8, lnRange8, ← EReal.coe_mul]; congr 1; ring
    have hR : log2Range = lnRange * (((Real.log 2)⁻¹ : ℝ) : EReal) := by
      rw [log2Range, lnRange, ← EReal.coe_mul]
    have hsub : A * (((Real.log 2)⁻¹ : ℝ) : EReal) - B * (((Real.log 2)⁻¹ : ℝ) : EReal)
        = (A - B) * (((Real.log 2)⁻¹ : ℝ) : EReal) := by
      rw [sub_eq_add_neg, sub_eq_add_neg, ← EReal.neg_mul,
        EReal.right_distrib_of_nonneg_of_ne_top (EReal.coe_nonneg.mpr hc.le) (EReal.coe_ne_top _)]
    have hmono : Monotone (fun x : EReal => x * (((Real.log 2)⁻¹ : ℝ) : EReal)) :=
      fun x y hxy => mul_le_mul_of_nonneg_right hxy (EReal.coe_nonneg.mpr hc.le)
    rw [hsub, h8, hR, ← hmono.map_max (a := A - B) (b := lnRange8)]
    show Ideal.div _ (max (A - B) lnRange8 * _) = _
    rcases max_coe_cases (A - B) (l := Real.log 229376 * 8⁻¹) (mul_pos log_range_pos (by norm_num)) with hM | ⟨M, hM0, hM⟩
    · have hM' : max (A - B) lnRange8 = ⊤ := hM
      rw [hM', EReal.top_mul_coe_of_pos hc]
      simp [Ideal.div]
    · have hM' : max (A - B) lnRange8 = (M : EReal) := hM
      rw [hM', ← EReal.coe_mul, Ideal.div_coe (mul_pos hM0 hc).ne', Ideal.div_coe hM0.ne', lnRange, ← EReal.coe_mul,
        ← EReal.coe_mul, ← EReal.coe_mul]
      congr 1
      field_simp [hM0.ne', log_two_pos.ne']
  · simp only [if_neg h]

/-- The exponent is a nonnegative real. -/
theorem refPow_real (a b : EReal) : ∃ r : ℝ, 0 ≤ r ∧ refPow a b = (r : EReal) := by
  unfold refPow
  split
  · rename_i h
    generalize Ideal.log (scale a) - Ideal.log b = D
    rcases max_coe_cases D (l := Real.log 229376 * 8⁻¹) (mul_pos log_range_pos (by norm_num)) with hM | ⟨M, hM0, hM⟩
    · have hM' : max D lnRange8 = ⊤ := hM
      refine ⟨0, le_refl _, ?_⟩
      rw [hM']; simp [Ideal.div]
    · have hM' : max D lnRange8 = (M : EReal) := hM
      refine ⟨Real.log 229376 * (1 / M), mul_nonneg log_range_pos.le (by positivity), ?_⟩
      rw [hM', Ideal.div_coe hM0.ne', lnRange, ← EReal.coe_mul]
  · exact ⟨1, zero_le_one, rfl⟩

/-- `2^(k X / ln 2 + log₂ 448) = 448 e^(k X)` for a nonnegative real `k` and `X < ⊤`. -/
theorem exp2_shift {X : EReal} (hX : X ≠ ⊤) {k : ℝ} (hk : 0 ≤ k) :
    Ideal.exp2 ((k : EReal) * (X * (((Real.log 2)⁻¹ : ℝ) : EReal)) + log2Max)
      = ((448 : ℝ) : EReal) * Ideal.exp ((k : EReal) * X) := by
  have hc : (0 : ℝ) < (Real.log 2)⁻¹ := inv_pos.mpr log_two_pos
  have key : ∀ r : ℝ, Ideal.exp2 (((r * (Real.log 2)⁻¹ : ℝ) : EReal) + log2Max) = ((448 : ℝ) : EReal) * Ideal.exp (r : EReal) := by
    intro r
    rw [log2Max, ← EReal.coe_add, ← add_mul, EReal.coe_mul, exp2_mul_inv_ln2, Ideal.exp_coe, Ideal.exp_coe, ← EReal.coe_mul]
    congr 1
    rw [Real.exp_add, Real.exp_log (by norm_num), mul_comm]
  induction X with
  | top => exact absurd rfl hX
  | coe x =>
    rw [← EReal.coe_mul, ← EReal.coe_mul, ← mul_assoc, ← EReal.coe_mul]
    exact key (k * x)
  | bot =>
    rw [EReal.bot_mul_coe_of_pos hc]
    rcases hk.eq_or_lt with h0 | h0
    · rw [← h0, EReal.coe_zero, zero_mul, zero_add]
      have := key 0
      rw [zero_mul, EReal.coe_zero, zero_add] at this
      exact this
    · rw [EReal.coe_mul_bot_of_pos h0, EReal.bot_add, Ideal.exp2_bot, Ideal.exp_bot, mul_zero]

/-- The difference of two base-two logarithms is the logarithm of the ratio over `ln 2`, for `0 < p ≤ a`, infinite
    values included; and the logarithm of that ratio is not `⊤`. -/
theorem log_ratio {p a : EReal} (hp : 0 < p) (hpa : p ≤ a) :
    Ideal.div (Ideal.log p) ln2 - Ideal.div (Ideal.log a) ln2
        = Ideal.log (Ideal.div p a) * (((Real.log 2)⁻¹ : ℝ) : EReal)
      ∧ Ideal.log (Ideal.div p a) ≠ ⊤ := by
  have hc : (0 : ℝ) < (Real.log 2)⁻¹ := inv_pos.mpr log_two_pos
  rw [div_ln2, div_ln2]
  induction a with
  | bot => exact absurd (lt_of_lt_of_le hp hpa) (not_lt_of_ge bot_le)
  | top =>
    have hd : Ideal.div p ⊤ = 0 := by simp [Ideal.div]
    have hl : Ideal.log 0 = ⊥ := by rw [← EReal.coe_zero, Ideal.log_coe, if_pos le_rfl]
    rw [hd, hl, Ideal.log_top, EReal.top_mul_coe_of_pos hc, EReal.bot_mul_coe_of_pos hc, EReal.sub_top]
    exact ⟨rfl, bot_ne_top⟩
  | coe s =>
    have hs : 0 < s := EReal.coe_pos.mp (lt_of_lt_of_le hp hpa)
    induction p with
    | bot => exact absurd hp (not_lt_of_ge bot_le)
    | top => exact absurd (top_le_iff.mp hpa) (EReal.coe_ne_top s)
    | coe r =>
      have hr : 0 < r := EReal.coe_pos.mp hp
      have hrs : 0 < r * (1 / s) := by positivity
      rw [Ideal.div_coe hs.ne', ← EReal.coe_mul, Ideal.log_coe, Ideal.log_coe, Ideal.log_coe, if_neg (not_le.mpr hr),
        if_neg (not_le.mpr hs), if_neg (not_le.mpr hrs), ← EReal.coe_mul, ← EReal.coe_mul, ← EReal.coe_mul, ← EReal.coe_sub,
        Real.log_mul hr.ne' (by positivity), one_div, Real.log_inv]
      refine ⟨?_, EReal.coe_ne_top _⟩
      congr 1
      ring

/-- The code's magnitude is the same both ways, for an entry no larger than the group's largest magnitude. -/
theorem kerY_eq {x a : EReal} (b : EReal) (hxa : mag x ≤ a) :
    kerY x (scale a) (refPow a b) = refY x (scale a) (refPow a b) := by
  unfold kerY refY
  by_cases h : x = 0
  · rw [if_pos h, if_neg (fun hm => mag_pos_iff.mp hm h)]
  · have hp := mag_pos h
    have hs : scale a = a := if_pos (lt_of_lt_of_le hp hxa)
    obtain ⟨r, hr, he⟩ := refPow_real a b
    rw [if_pos hp, if_neg h, if_neg h, hs, he, (log_ratio hp hxa).1, exp2_shift (log_ratio hp hxa).2 hr]

/-- Each entry's magnitude is at most the group's largest. -/
theorem mag_le_amax (x : Fin 128 → EReal) (j : Fin 128) : mag (x j) ≤ amax x := by
  unfold amax
  exact (Finset.le_fold_max _).mpr (.inr ⟨j, Finset.mem_univ j, le_rfl⟩)

/-- The codes of a group are the same both ways. -/
theorem code_eq (x : Fin 128 → EReal) (j : Fin 128) :
    clip (x j) (kerY (x j) (scale (amax x)) (kerPow (amax x) (amin x)))
      = clip (x j) (refY (x j) (scale (amax x)) (refPow (amax x) (amin x))) := by
  rw [kerPow_eq, kerY_eq (amin x) (mag_le_amax x j)]

end Cert.Adam

end
-- ==== Proof.Adam.Model.lean ====
/- The seven results of the optimizer step as functions of the argument arrays, entry by entry, over the extended
   reals, in the reference's arithmetic. A group is 128 consecutive columns of one row; `(b, r, g)` names the group and
   `l` the lane in it. No program is named here. -/
module

public import proofs.«01_k».proof.Proof.Adam.Spec
public import Idealize.ShloMosaic.Lib.Pipeline.ValueKit

@[expose] public section

noncomputable section

namespace Cert.Adam

open Idealize.ShloMosaic

/-- The shape of a parameter-sized array. -/
abbrev SB : Shape := ⟨3, ![2, 128, 102400]⟩
/-- The shape of an array with one entry per group. -/
abbrev SG : Shape := ⟨3, ![2, 128, 800]⟩

/-- The parameter-sized index of lane `l` of group `g`. -/
def ent (b : Fin 2) (r : Fin 128) (g : Fin 800) (l : Fin 128) : SB.Idx :=
  ix3 b r (⟨g.val * 128 + l.val, by omega⟩ : Fin 102400)

/-- A group's index. -/
def grp (b : Fin 2) (r : Fin 128) (g : Fin 800) : SG.Idx := ix3 b r g

/-- The first moment after the step, lane `l` of group `(b, r, g)`, from the codes, scales, exponents and gradient. -/
def M1 (q : SB.Idx → EReal) (s k : SG.Idx → EReal) (gr : SB.Idx → EReal) (b : Fin 2) (r : Fin 128) (g : Fin 800) (l : Fin 128) : EReal :=
  mom1 (refDeq (q (ent b r g l)) (s (grp b r g)) (k (grp b r g))) (gr (ent b r g l))

/-- The second moment after the step. -/
def M2 (q : SB.Idx → EReal) (s k : SG.Idx → EReal) (gr : SB.Idx → EReal) (b : Fin 2) (r : Fin 128) (g : Fin 800) (l : Fin 128) : EReal :=
  mom2 (refDeq (q (ent b r g l)) (s (grp b r g)) (k (grp b r g))) (gr (ent b r g l))

/-- The code stored for lane `l` of a group with moments `x`. -/
def codeAt (x : Fin 128 → EReal) (l : Fin 128) : EReal :=
  clip (x l) (refY (x l) (scale (amax x)) (refPow (amax x) (amin x)))

/-- The update at lane `l` of group `(b, r, g)`, `t` the step. -/
def updAt (w gr mq : SB.Idx → EReal) (ms mk : SG.Idx → EReal) (vq : SB.Idx → EReal) (vs vk : SG.Idx → EReal) (t : EReal)
    (b : Fin 2) (r : Fin 128) (g : Fin 800) (l : Fin 128) : EReal :=
  upd (M1 mq ms mk gr b r g l) (M2 vq vs vk gr b r g l) (refBc ((9 / 10 : ℝ) : EReal) t) (refBc ((19 / 20 : ℝ) : EReal) t)
    (w (ent b r g l))

/-- The group of a column. -/
def gOf (i : SB.Idx) : Fin 800 := ⟨(i 2).val / 128, by have : (i 2).val < 102400 := (i 2).isLt; omega⟩
/-- The lane of a column. -/
def lOf (i : SB.Idx) : Fin 128 := ⟨(i 2).val % 128, Nat.mod_lt _ (by norm_num)⟩

/-- A parameter-sized array from its values by group and lane. -/
def ofLanes (f : Fin 2 → Fin 128 → Fin 800 → Fin 128 → EReal) : SB.Idx → EReal := fun i => f (i 0) (i 1) (gOf i) (lOf i)

/-- An array of group values from a function of the group's lanes. -/
def ofGroups (h : (Fin 128 → EReal) → EReal) (f : Fin 2 → Fin 128 → Fin 800 → Fin 128 → EReal) : SG.Idx → EReal :=
  fun i => h (f (i 0) (i 1) (i 2))

/-- The scales stored for moments `f`. -/
def scales (f : Fin 2 → Fin 128 → Fin 800 → Fin 128 → EReal) : SG.Idx → EReal := ofGroups (fun x => scale (amax x)) f
/-- The exponents stored for moments `f`. -/
def powers (f : Fin 2 → Fin 128 → Fin 800 → Fin 128 → EReal) : SG.Idx → EReal := ofGroups (fun x => refPow (amax x) (amin x)) f
/-- The codes stored for moments `f`. -/
def codes (f : Fin 2 → Fin 128 → Fin 800 → Fin 128 → EReal) : SB.Idx → EReal := ofLanes fun b r g l => codeAt (f b r g) l

/-- Every parameter-sized index is a lane of a group. -/
theorem ent_of (i : SB.Idx) : ent (i 0) (i 1) (gOf i) (lOf i) = i := by
  funext a
  match a with
  | ⟨0, _⟩ => rfl
  | ⟨1, _⟩ => rfl
  | ⟨2, _⟩ => exact Fin.ext (show (i 2).val / 128 * 128 + (i 2).val % 128 = (i 2).val from Nat.div_add_mod' _ _)

/-- Every group-sized index is a group's. -/
theorem grp_of (i : SG.Idx) : grp (i 0) (i 1) (i 2) = i := by
  funext a
  match a with
  | ⟨0, _⟩ => rfl
  | ⟨1, _⟩ => rfl
  | ⟨2, _⟩ => rfl

/-- Two parameter-sized arrays agree when they agree at every lane of every group. -/
theorem eq_ofLanes {X : SB.Idx → EReal} {f : Fin 2 → Fin 128 → Fin 800 → Fin 128 → EReal} (h : ∀ b r g l, X (ent b r g l) = f b r g l) :
    X = ofLanes f := by
  funext i
  have e := h (i 0) (i 1) (gOf i) (lOf i)
  rw [ent_of] at e
  exact e

/-- Two group-sized arrays agree when they agree at every group. -/
theorem eq_ofGroups {X : SG.Idx → EReal} {k : (Fin 128 → EReal) → EReal} {f : Fin 2 → Fin 128 → Fin 800 → Fin 128 → EReal}
    (h : ∀ b r g, X (ix3 b r g) = k (f b r g)) : X = ofGroups k f := by
  funext i
  have e := h (i 0) (i 1) (i 2)
  rw [show (ix3 (i 0) (i 1) (i 2) : SG.Idx) = i from grp_of i] at e
  exact e

end Cert.Adam

end
-- ==== Proof.Adam.Consts.lean ====
/- The float literals the two programs spell, as the extended reals their bit patterns denote. -/
module

public import Idealize.ShloMosaic.PureOps.Ideal

@[expose] public section

noncomputable section

namespace Cert.Adam

open Idealize.ShloMosaic

/-- The pattern of `0.0` denotes `0`. -/
theorem lit_zero : Ideal.ofBits .f32 0x00000000#32 = (0 : EReal) := by
  simp [Ideal.ofBits, Ideal.ieee, -EReal.coe_mul]

/-- The pattern of `1.0` denotes `1`. -/
theorem lit_one : Ideal.ofBits .f32 0x3F800000#32 = (1 : EReal) := by
  rw [show (1 : EReal) = ((1 : ℝ) : EReal) from rfl]
  simp [Ideal.ofBits, Ideal.ieee, -EReal.coe_mul]; norm_num

/-- The pattern of `-1.0` denotes `-1`. -/
theorem lit_neg_one : Ideal.ofBits .f32 0xBF800000#32 = (-1 : EReal) := by
  rw [show (-1 : EReal) = ((-1 : ℝ) : EReal) from rfl]
  simp [Ideal.ofBits, Ideal.ieee, -EReal.coe_mul]; norm_num

/-- The pattern of `448.0`, the largest finite code, denotes `448`. -/
theorem lit_448 : Ideal.ofBits .f32 0x43E00000#32 = ((448 : ℝ) : EReal) := by
  simp [Ideal.ofBits, Ideal.ieee, -EReal.coe_mul]; norm_num

/-- The pattern of `+inf` denotes `⊤`. -/
theorem lit_top : Ideal.ofBits .f32 0x7F800000#32 = (⊤ : EReal) := by
  simp [Ideal.ofBits, Ideal.ieee, -EReal.coe_mul]

/-- The pattern of `-inf` denotes `⊥`. -/
theorem lit_bot : Ideal.ofBits .f32 0xFF800000#32 = (⊥ : EReal) := by
  simp [Ideal.ofBits, Ideal.ieee, -EReal.coe_mul]

end Cert.Adam

end
-- ==== Proof.Adam.Reduce.lean ====
/- The two reductions of a group, at any sizes, and the scale and exponent they give. -/
module

public import proofs.«01_k».proof.Proof.Adam.Spec
public import proofs.«01_k».proof.Proof.Adam.Consts
public import Idealize.ShloMosaic.Lib.Pipeline.ValueKit

@[expose] public section

noncomputable section

namespace Cert.Adam

open Idealize.ShloMosaic

variable {n0 n1 n2 n3 : ℕ}

/-- The maximum over the last of four axes, read at an index. -/
theorem max4 (h : (⟨4, ![n0, n1, n2, n3]⟩ : Shape).Reduces [3] ⟨3, ![n0, n1, n2]⟩) (v : FVec Ideal ⟨4, ![n0, n1, n2, n3]⟩ .f32) (hk hf)
    (b : Fin n0) (r : Fin n1) (g : Fin n2) :
    multiReduction .maximumf [3] ⟨3, ![n0, n1, n2]⟩ v 0xFF800000#32 h hk hf (ix3 b r g)
      = (Finset.univ : Finset (Fin n3)).fold max ⊥ fun l => v (ix4 b r g l) := by
  pointwise [lit_bot]

/-- The minimum over the last of four axes, read at an index. -/
theorem min4 (h : (⟨4, ![n0, n1, n2, n3]⟩ : Shape).Reduces [3] ⟨3, ![n0, n1, n2]⟩) (v : FVec Ideal ⟨4, ![n0, n1, n2, n3]⟩ .f32) (hk hf)
    (b : Fin n0) (r : Fin n1) (g : Fin n2) :
    multiReduction .minimumf [3] ⟨3, ![n0, n1, n2]⟩ v 0x7F800000#32 h hk hf (ix3 b r g)
      = (Finset.univ : Finset (Fin n3)).fold min ⊤ fun l => v (ix4 b r g l) := by
  pointwise [lit_top]

/-- The maximum over the last of two axes, read at an index. -/
theorem max2 (h : (⟨2, ![n0, n1]⟩ : Shape).Reduces [1] ⟨1, ![n0]⟩) (v : FVec Ideal ⟨2, ![n0, n1]⟩ .f32) (hk hf) (r : Fin n0) :
    multiReduction .maximumf [1] ⟨1, ![n0]⟩ v 0xFF800000#32 h hk hf (ix1 r)
      = (Finset.univ : Finset (Fin n1)).fold max ⊥ fun l => v (ix2 r l) := by
  pointwise [lit_bot]

/-- The minimum over the last of two axes, read at an index. -/
theorem min2 (h : (⟨2, ![n0, n1]⟩ : Shape).Reduces [1] ⟨1, ![n0]⟩) (v : FVec Ideal ⟨2, ![n0, n1]⟩ .f32) (hk hf) (r : Fin n0) :
    multiReduction .minimumf [1] ⟨1, ![n0]⟩ v 0x7F800000#32 h hk hf (ix1 r)
      = (Finset.univ : Finset (Fin n1)).fold min ⊤ fun l => v (ix2 r l) := by
  pointwise [lit_top]

end Cert.Adam

end
-- ==== Proof.Adam.RefPay.lean ====
/- The reference's values read entry by entry: each array its body computes, at a group and a lane. -/
module

public import proofs.«01_k».proof.Proof.Gen.ReferenceIdeal.Skeleton
public import proofs.«01_k».proof.Proof.Adam.Model
public import proofs.«01_k».proof.Proof.Adam.Reduce

@[expose] public section

set_option maxRecDepth 16384

noncomputable section

namespace Cert.ReferenceIdeal.Pay

open Cert.ReferenceIdeal Cert.ReferenceIdeal.Gen Idealize.ShloMosaic Cert.Adam

/-- The constant `beta1` stands for nine tenths. -/
theorem beta1 : Named.named (F := Ideal) κ "beta1" (φ := .f32) 0x3F666666#32 = ((9 / 10 : ℝ) : EReal) :=
  IdealRules.named_const.ideal_named_scalar _ _ _ _ rfl
/-- The constant `beta2` stands for nineteen twentieths. -/
theorem beta2 : Named.named (F := Ideal) κ "beta2" (φ := .f32) 0x3F733333#32 = ((19 / 20 : ℝ) : EReal) :=
  IdealRules.named_const.ideal_named_scalar _ _ _ _ rfl
/-- The constant `ln_range` stands for `ln 229376`. -/
theorem ln_range : Named.named (F := Ideal) κ "ln_range" (φ := .f32) 0x41457D69#32 = lnRange :=
  IdealRules.named_const.ideal_named_scalar _ _ _ _ rfl
/-- The constant `ln_range_8` stands for an eighth of `ln 229376`. -/
theorem ln_range_8 : Named.named (F := Ideal) κ "ln_range_8" (φ := .f32) 0x3FC57D69#32 = lnRange8 :=
  IdealRules.named_const.ideal_named_scalar _ _ _ _ rfl

/-- The absolute value is the larger of the value and its negative. -/
theorem absf_mag (x : EReal) : FloatOps.absf (F := Ideal) (φ := .f32) x = mag x := rfl

section
variable (q : FVec Ideal S2x128x102400 .fp8e4m3) (s k : FVec Ideal S2x128x800 .f32) (gr : FVec Ideal S2x128x102400 .bf16)
  (w : FVec Ideal S2x128x102400 .f32) (v u : FVec Ideal S2x128x800x128 .f32) (b : Fin 2) (r : Fin 128) (g : Fin 800) (l : Fin 128)

/-- A decoded first moment. -/
theorem pay2 : k0_pay2 (F := Ideal) q s k (ix4 b r g l) = refDeq (q (ent b r g l)) (s (grp b r g)) (k (grp b r g)) := by
  pointwise [k0_pay2, refDeq, lit_zero, lit_one, lit_neg_one, lit_448, absf_mag, sg, ent, grp]

/-- The first moment after the step. -/
theorem pay5 : k0_pay5 (F := Ideal) (k0_pay2 (F := Ideal) q s k) gr (ix4 b r g l) = M1 q s k gr b r g l := by
  pointwise [k0_pay5, k0_pay4, pay2, beta1, M1, mom1, ent, grp]

/-- The second moment after the step. -/
theorem pay6 : k0_pay6 (F := Ideal) s k (k0_pay3 (F := Ideal) q) gr (ix4 b r g l) = M2 q s k gr b r g l := by
  pointwise [k0_pay6, k0_pay4, k0_pay3, beta2, M2, mom2, refDeq, lit_zero, lit_one, lit_neg_one, lit_448, absf_mag, sg, ent, grp]

/-- The body's maximum over a group's lanes. -/
theorem vmax (x : FVec Ideal S2x128x800x128 .f32) (hk hf) :
    multiReduction .maximumf [3] S2x128x800 x 0xFF800000#32 reduces_S2x128x800x128_S2x128x800 hk hf (ix3 b r g)
      = (Finset.univ : Finset (Fin 128)).fold max ⊥ fun l => x (ix4 b r g l) :=
  max4 (n0 := 2) (n1 := 128) (n2 := 800) (n3 := 128) reduces_S2x128x800x128_S2x128x800 x hk hf b r g

/-- The body's minimum over a group's lanes. -/
theorem vmin (x : FVec Ideal S2x128x800x128 .f32) (hk hf) :
    multiReduction .minimumf [3] S2x128x800 x 0x7F800000#32 reduces_S2x128x800x128_S2x128x800 hk hf (ix3 b r g)
      = (Finset.univ : Finset (Fin 128)).fold min ⊤ fun l => x (ix4 b r g l) :=
  min4 (n0 := 2) (n1 := 128) (n2 := 800) (n3 := 128) reduces_S2x128x800x128_S2x128x800 x hk hf b r g

/-- A group's largest magnitude. -/
theorem amax_abs : ((Finset.univ : Finset (Fin 128)).fold max ⊥ fun l => k0_pay10 (F := Ideal) v (ix4 b r g l)) = amax fun l => v (ix4 b r g l) := rfl

/-- A group's largest magnitude, as the body computes it for the first moment. -/
theorem pay11 : k0_pay11 (F := Ideal) v (ix3 b r g) = amax fun l => v (ix4 b r g l) := by
  have e : k0_pay11 (F := Ideal) v = multiReduction .maximumf [3] S2x128x800 (k0_pay10 (F := Ideal) v) 0xFF800000#32
      reduces_S2x128x800x128_S2x128x800 (.inl rfl) rfl := rfl
  rw [e]
  exact (vmax b r g _ _ _).trans (amax_abs v b r g)

/-- A group's largest magnitude, as the body computes it for the second moment. -/
theorem pay17 : k0_pay17 (F := Ideal) v (ix3 b r g) = amax fun l => v (ix4 b r g l) := pay11 v b r g

/-- The scale from the largest magnitudes. -/
theorem pay20 (A : FVec Ideal S2x128x800 .f32) : k0_pay20 (F := Ideal) A (ix3 b r g) = scale (A (ix3 b r g)) := by
  pointwise [k0_pay20, k0_pay19, scale, lit_zero, lit_one]

/-- The body's exponent, from the array of the largest and the array of the smallest positive magnitudes. -/
def powOf (A B : FVec Ideal S2x128x800 .f32) : FVec Ideal S2x128x800 .f32 :=
  select (k0_pay19 (F := Ideal) A)
    (divf (broadcast S2x128x800 (Named.named (F := Ideal) κ "ln_range" (φ := .f32) 0x41457D69#32))
      (maximumf (subf (log (k0_pay20 (F := Ideal) A)) (log (select (k0_pay19 (F := Ideal) A) B (broadcast S2x128x800 (Scalar.ofBits .f32 0x3F800000#32)))))
        (broadcast S2x128x800 (Named.named (F := Ideal) κ "ln_range_8" (φ := .f32) 0x3FC57D69#32))))
    (broadcast S2x128x800 (Scalar.ofBits .f32 0x3F800000#32))

/-- The body's exponent at a group. -/
theorem powOf_at (A B : FVec Ideal S2x128x800 .f32) : powOf A B (ix3 b r g) = refPow (A (ix3 b r g)) (B (ix3 b r g)) := by
  pointwise [powOf, k0_pay20, k0_pay19, refPow, scale, lit_zero, lit_one, ln_range, ln_range_8]

/-- The body's array of the smallest positive magnitudes. -/
def minOf (x : FVec Ideal S2x128x800x128 .f32) : FVec Ideal S2x128x800 .f32 :=
  multiReduction .minimumf [3] S2x128x800 x 0x7F800000#32 reduces_S2x128x800x128_S2x128x800 (.inl rfl) rfl

/-- The exponent is `powOf` of the two arrays. -/
theorem pay21_eq (A : FVec Ideal S2x128x800 .f32) :
    k0_pay21 (F := Ideal) (k0_pay16 (F := Ideal) v) A (k0_pay18 (F := Ideal) v)
      = powOf A (minOf (select (k0_pay18 (F := Ideal) v) (k0_pay16 (F := Ideal) v) (broadcast S2x128x800x128 (Scalar.ofBits .f32 0x7F800000#32)))) := rfl

/-- The positive magnitudes, the others raised to the top. -/
theorem pos_at : (select (k0_pay18 (F := Ideal) v) (k0_pay16 (F := Ideal) v) (broadcast S2x128x800x128 (Scalar.ofBits .f32 0x7F800000#32))
      : FVec Ideal S2x128x800x128 .f32) (ix4 b r g l) = if 0 < mag (v (ix4 b r g l)) then mag (v (ix4 b r g l)) else ⊤ := by
  pointwise [k0_pay18, k0_pay16, lit_zero, lit_top, absf_mag]

/-- The smallest positive magnitude of a group. -/
theorem minOf_at (x : FVec Ideal S2x128x800x128 .f32) (hx : ∀ l, x (ix4 b r g l) = if 0 < mag (v (ix4 b r g l)) then mag (v (ix4 b r g l)) else ⊤) :
    minOf x (ix3 b r g) = amin fun l => v (ix4 b r g l) :=
  (vmin b r g x _ _).trans (congrArg (fun h => (Finset.univ : Finset (Fin 128)).fold min ⊤ h) (funext hx))

/-- A group's scale. -/
theorem scale_at : k0_pay20 (F := Ideal) (k0_pay17 (F := Ideal) v) (ix3 b r g) = scale (amax fun l => v (ix4 b r g l)) := by
  rw [pay20, pay17]

/-- A group's exponent. -/
theorem power_at : k0_pay21 (F := Ideal) (k0_pay16 (F := Ideal) v) (k0_pay17 (F := Ideal) v) (k0_pay18 (F := Ideal) v) (ix3 b r g)
    = refPow (amax fun l => v (ix4 b r g l)) (amin fun l => v (ix4 b r g l)) := by
  rw [pay21_eq, powOf_at, pay17, minOf_at v b r g _ (pos_at v b r g)]

/-- The body's codes, from moments and the arrays of scales and exponents. -/
def codeOf (v : FVec Ideal S2x128x800x128 .f32) (S K : FVec Ideal S2x128x800 .f32) : FVec Ideal S2x128x102400 .fp8e4m3 :=
  k0_pay1 (F := Ideal) (k0_pay22 (F := Ideal) v) (Scalar.ofBits .f32 0x43E00000#32)
    (maximumf (broadcast S2x128x800x128 (Scalar.ofBits .f32 0x00000000#32))
      (select (cmpf .oeq v (broadcast S2x128x800x128 (Scalar.ofBits .f32 0x00000000#32)))
        (broadcast S2x128x800x128 (Scalar.ofBits .f32 0x00000000#32))
        (mulf (broadcast S2x128x800x128 (Scalar.ofBits .f32 0x43E00000#32))
          (exp (mulf (broadcastTo S2x128x800x128 (shapeCast S2x128x800x1 K shapeCasts_S2x128x800_S2x128x800x1) broadcasts_S2x128x800x1_S2x128x800x128)
            (log (divf
              (select (cmpf .oeq v (broadcast S2x128x800x128 (Scalar.ofBits .f32 0x00000000#32)))
                (broadcast S2x128x800x128 (Scalar.ofBits .f32 0x3F800000#32)) (k0_pay16 (F := Ideal) v))
              (broadcastTo S2x128x800x128 (shapeCast S2x128x800x1 S shapeCasts_S2x128x800_S2x128x800x1) broadcasts_S2x128x800x1_S2x128x800x128))))))))

/-- The body's codes at a lane. -/
theorem codeOf_at (S K : FVec Ideal S2x128x800 .f32) :
    codeOf v S K (ent b r g l) = clip (v (ix4 b r g l)) (refY (v (ix4 b r g l)) (S (ix3 b r g)) (K (ix3 b r g))) := by
  have hd : (↑g * 128 + ↑l) / 128 = (g : ℕ) := by omega
  have hm : (↑g * 128 + ↑l) % 128 = (l : ℕ) := by omega
  pointwise [codeOf, k0_pay1, k0_pay22, k0_pay16, clip, refY, sg, lit_zero, lit_one, lit_neg_one, lit_448, absf_mag, ent, hd, hm]

/-- The second moment's codes. -/
theorem codes2_eq : k0_pay1 (F := Ideal) (k0_pay22 (F := Ideal) v) (Scalar.ofBits .f32 0x43E00000#32)
      (k0_pay23 (F := Ideal) v (k0_pay16 (F := Ideal) v) (k0_pay17 (F := Ideal) v) (k0_pay18 (F := Ideal) v))
    = codeOf v (k0_pay20 (F := Ideal) (k0_pay17 (F := Ideal) v))
        (k0_pay21 (F := Ideal) (k0_pay16 (F := Ideal) v) (k0_pay17 (F := Ideal) v) (k0_pay18 (F := Ideal) v)) := rfl

/-- The first moment's scales are computed as the second's. -/
theorem scale1_eq : k0_pay13 (F := Ideal) v = k0_pay20 (F := Ideal) (k0_pay17 (F := Ideal) v) := rfl

/-- The first moment's exponents are computed as the second's. -/
theorem power1_eq : k0_pay14 (F := Ideal) v
    = k0_pay21 (F := Ideal) (k0_pay16 (F := Ideal) v) (k0_pay17 (F := Ideal) v) (k0_pay18 (F := Ideal) v) := rfl

/-- The first moment's codes. -/
theorem codes1_eq : k0_pay15 (F := Ideal) v (k0_pay10 (F := Ideal) v) (k0_pay13 (F := Ideal) v) (k0_pay14 (F := Ideal) v)
    = codeOf v (k0_pay13 (F := Ideal) v) (k0_pay14 (F := Ideal) v) := rfl

/-- A lane's code. -/
theorem code_at : codeOf v (k0_pay20 (F := Ideal) (k0_pay17 (F := Ideal) v))
      (k0_pay21 (F := Ideal) (k0_pay16 (F := Ideal) v) (k0_pay17 (F := Ideal) v) (k0_pay18 (F := Ideal) v)) (ent b r g l)
    = codeAt (fun l => v (ix4 b r g l)) l := by
  rw [codeOf_at, scale_at, power_at]
  rfl

/-- The update at a lane. -/
theorem upd_at (i : Elt Ideal .i32) : k0_pay9 (F := Ideal) v u (k0_pay7 (F := Ideal) i) (k0_pay8 (F := Ideal) i) w (ent b r g l)
    = upd (v (ix4 b r g l)) (u (ix4 b r g l)) (refBc ((9 / 10 : ℝ) : EReal) (Scalar.sitofp (F := Ideal) .f32 i))
        (refBc ((19 / 20 : ℝ) : EReal) (Scalar.sitofp (F := Ideal) .f32 i)) (w (ent b r g l)) := by
  have hd : (↑g * 128 + ↑l) / 128 = (g : ℕ) := by omega
  have hm : (↑g * 128 + ↑l) % 128 = (l : ℕ) := by omega
  pointwise [k0_pay9, k0_pay8, k0_pay7, upd, refBc, beta1, beta2, lit_one, ent, hd, hm]
  rfl

/-- The first moments after the step, as the body computes them. -/
def mom1Of : FVec Ideal S2x128x800x128 .f32 := k0_pay5 (F := Ideal) (k0_pay2 (F := Ideal) q s k) gr
/-- The second moments after the step, as the body computes them. -/
def mom2Of : FVec Ideal S2x128x800x128 .f32 := k0_pay6 (F := Ideal) s k (k0_pay3 (F := Ideal) q) gr

/-- The lanes of the first moments of a group. -/
theorem row1 : (fun l => mom1Of q s k gr (ix4 b r g l)) = M1 q s k gr b r g := funext (pay5 q s k gr b r g)
/-- The lanes of the second moments of a group. -/
theorem row2 : (fun l => mom2Of q s k gr (ix4 b r g l)) = M2 q s k gr b r g := funext (pay6 q s k gr b r g)

/-- The codes of moments `v` whose rows are `f`'s. -/
theorem codes_eq (f : Fin 2 → Fin 128 → Fin 800 → Fin 128 → EReal) (hf : ∀ b r g, (fun l => v (ix4 b r g l)) = f b r g) :
    codeOf v (k0_pay20 (F := Ideal) (k0_pay17 (F := Ideal) v))
      (k0_pay21 (F := Ideal) (k0_pay16 (F := Ideal) v) (k0_pay17 (F := Ideal) v) (k0_pay18 (F := Ideal) v)) = codes f :=
  eq_ofLanes fun b r g l => (code_at v b r g l).trans (congrArg (codeAt · l) (hf b r g))

/-- The scales of moments `v` whose rows are `f`'s. -/
theorem scales_eq (f : Fin 2 → Fin 128 → Fin 800 → Fin 128 → EReal) (hf : ∀ b r g, (fun l => v (ix4 b r g l)) = f b r g) :
    k0_pay20 (F := Ideal) (k0_pay17 (F := Ideal) v) = scales f :=
  eq_ofGroups (k := fun x => scale (amax x)) fun b r g => (scale_at v b r g).trans (congrArg (fun x => scale (amax x)) (hf b r g))

/-- The exponents of moments `v` whose rows are `f`'s. -/
theorem powers_eq (f : Fin 2 → Fin 128 → Fin 800 → Fin 128 → EReal) (hf : ∀ b r g, (fun l => v (ix4 b r g l)) = f b r g) :
    k0_pay21 (F := Ideal) (k0_pay16 (F := Ideal) v) (k0_pay17 (F := Ideal) v) (k0_pay18 (F := Ideal) v) = powers f :=
  eq_ofGroups (k := fun x => refPow (amax x) (amin x)) fun b r g =>
    (power_at v b r g).trans (congrArg (fun x => refPow (amax x) (amin x)) (hf b r g))

/-- The update as an array. -/
theorem upd_eq (vq : FVec Ideal S2x128x102400 .fp8e4m3) (vs vk : FVec Ideal S2x128x800 .f32) (i : Elt Ideal .i32) :
    k0_pay9 (F := Ideal) (mom1Of q s k gr) (mom2Of vq vs vk gr) (k0_pay7 (F := Ideal) i) (k0_pay8 (F := Ideal) i) w
      = ofLanes (updAt w gr q s k vq vs vk (Scalar.sitofp (F := Ideal) .f32 i)) :=
  eq_ofLanes fun b r g l => by
    rw [upd_at]
    exact congrArg₂ (fun x y => upd x y _ _ _) (congrFun (row1 q s k gr b r g) l) (congrFun (row2 vq vs vk gr b r g) l)

end

end Cert.ReferenceIdeal.Pay

end
-- ==== Proof.Adam.RefValue.lean ====
/- The reference's seven result arrays after its run, as functions of its arguments. Its region has one point and every
   window covers its whole array, so an array is what the body stored. -/
module

public import proofs.«01_k».proof.Proof.Gen.ReferenceIdeal.Value
public import proofs.«01_k».proof.Proof.Adam.RefPay

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Cert.Adam Cert.ReferenceIdeal.Pay

variable (m : (ℓ : Loc nD τ sig) → Buf (Elt Ideal) ℓ)

/-- Every window sits at the start of its array. -/
theorem idx : ∀ t : Fin cfg0.N, win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0]
    ∧ win0_8.index t = ![0, 0, 0] ∧ win0_9.index t = ![0, 0, 0] ∧ win0_10.index t = ![0, 0, 0] ∧ win0_11.index t = ![0, 0, 0]
    ∧ win0_12.index t = ![0, 0, 0] ∧ win0_13.index t = ![0, 0, 0] ∧ win0_14.index t = ![0, 0, 0] ∧ win0_15.index t = ![0, 0, 0] :=
  (by decide +kernel : ∀ t : Fin grid0.N, _)

/-- The step the body reads is the argument. -/
theorem blk0 (c : Dev nD) (i) : iblk m c 0 t0_0 i = m ((c : Thread nD τ).loc main_arg8) ix0 := by
  blk_point [iblk, V]
/-- The block of input 1 is the whole argument. -/
theorem blk1 (c : Dev nD) : iblk m c 1 t0_0 = m ((c : Thread nD τ).loc main_arg0) := by
  funext y
  blk_point [iblk, V, idx t0_0]
/-- The block of input 2 is the whole argument. -/
theorem blk2 (c : Dev nD) : iblk m c 2 t0_0 = m ((c : Thread nD τ).loc main_arg1) := by
  funext y
  blk_point [iblk, V, idx t0_0]
/-- The block of input 3 is the whole argument. -/
theorem blk3 (c : Dev nD) : iblk m c 3 t0_0 = m ((c : Thread nD τ).loc main_arg2) := by
  funext y
  blk_point [iblk, V, idx t0_0]
/-- The block of input 4 is the whole argument. -/
theorem blk4 (c : Dev nD) : iblk m c 4 t0_0 = m ((c : Thread nD τ).loc main_arg3) := by
  funext y
  blk_point [iblk, V, idx t0_0]
/-- The block of input 5 is the whole argument. -/
theorem blk5 (c : Dev nD) : iblk m c 5 t0_0 = m ((c : Thread nD τ).loc main_arg4) := by
  funext y
  blk_point [iblk, V, idx t0_0]
/-- The block of input 6 is the whole argument. -/
theorem blk6 (c : Dev nD) : iblk m c 6 t0_0 = m ((c : Thread nD τ).loc main_arg5) := by
  funext y
  blk_point [iblk, V, idx t0_0]
/-- The block of input 7 is the whole argument. -/
theorem blk7 (c : Dev nD) : iblk m c 7 t0_0 = m ((c : Thread nD τ).loc main_arg6) := by
  funext y
  blk_point [iblk, V, idx t0_0]
/-- The block of input 8 is the whole argument. -/
theorem blk8 (c : Dev nD) : iblk m c 8 t0_0 = m ((c : Thread nD τ).loc main_arg7) := by
  funext y
  blk_point [iblk, V, idx t0_0]

/-- The first moments after the step, by group and lane. -/
abbrev m1 (c : Dev nD) := M1 (m ((c : Thread nD τ).loc main_arg2)) (m ((c : Thread nD τ).loc main_arg3)) (m ((c : Thread nD τ).loc main_arg4))
  (m ((c : Thread nD τ).loc main_arg1))
/-- The second moments after the step, by group and lane. -/
abbrev m2 (c : Dev nD) := M2 (m ((c : Thread nD τ).loc main_arg5)) (m ((c : Thread nD τ).loc main_arg6)) (m ((c : Thread nD τ).loc main_arg7))
  (m ((c : Thread nD τ).loc main_arg1))

/-- The update. -/
theorem final9 (c : Dev nD) : (dats m 0 c).arrAt 9 cfg0.N
    = ofLanes (updAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))
        (Scalar.sitofp (F := Ideal) .f32 (m ((c : Thread nD τ).loc main_arg8) ix0))) := by
  refine (dats m 0 c).arrAt_eq_of_after_last 9 t0_0 (by decide +kernel) _ fun j => ?_
  blk_simp
  rw [after0_9]
  unfold outsAt0
  frame_out
  simp only [(hs0_0 t0_0).read_unread, (hs0_1 t0_0).read_unread, (hs0_2 t0_0).read_unread, (hs0_3 t0_0).read_unread, (hs0_4 t0_0).read_unread,
    (hs0_5 t0_0).read_unread, (hs0_6 t0_0).read_unread, (hs0_7 t0_0).read_unread, (hs0_8 t0_0).read_unread,
    blk0, blk1, blk2, blk3, blk4, blk5, blk6, blk7, blk8]
  exact congrFun (upd_eq _ _ _ _ _ _ _ _ _) j

/-- The first moment's codes. -/
theorem final10 (c : Dev nD) : (dats m 0 c).arrAt 10 cfg0.N = codes (m1 m c) := by
  refine (dats m 0 c).arrAt_eq_of_after_last 10 t0_0 (by decide +kernel) _ fun j => ?_
  blk_simp
  rw [after0_10]
  unfold outsAt0
  frame_out
  simp only [(hs0_2 t0_0).read_unread, (hs0_3 t0_0).read_unread, (hs0_4 t0_0).read_unread,
    (hs0_5 t0_0).read_unread, (hs0_6 t0_0).read_unread, (hs0_7 t0_0).read_unread, (hs0_8 t0_0).read_unread,
    blk2, blk3, blk4, blk5, blk6, blk7, blk8]
  exact congrFun ((codes1_eq (mom1Of _ _ _ _)).trans (codes_eq (mom1Of _ _ _ _) _ (row1 _ _ _ _))) j

/-- The first moment's scales. -/
theorem final11 (c : Dev nD) : (dats m 0 c).arrAt 11 cfg0.N = scales (m1 m c) := by
  refine (dats m 0 c).arrAt_eq_of_after_last 11 t0_0 (by decide +kernel) _ fun j => ?_
  blk_simp
  rw [after0_11]
  unfold outsAt0
  frame_out
  simp only [(hs0_2 t0_0).read_unread, (hs0_3 t0_0).read_unread, (hs0_4 t0_0).read_unread,
    (hs0_5 t0_0).read_unread, (hs0_6 t0_0).read_unread, (hs0_7 t0_0).read_unread, (hs0_8 t0_0).read_unread,
    blk2, blk3, blk4, blk5, blk6, blk7, blk8]
  exact congrFun ((scale1_eq (mom1Of _ _ _ _)).trans (scales_eq (mom1Of _ _ _ _) _ (row1 _ _ _ _))) j

/-- The first moment's exponents. -/
theorem final12 (c : Dev nD) : (dats m 0 c).arrAt 12 cfg0.N = powers (m1 m c) := by
  refine (dats m 0 c).arrAt_eq_of_after_last 12 t0_0 (by decide +kernel) _ fun j => ?_
  blk_simp
  rw [after0_12]
  unfold outsAt0
  frame_out
  simp only [(hs0_2 t0_0).read_unread, (hs0_3 t0_0).read_unread, (hs0_4 t0_0).read_unread,
    (hs0_5 t0_0).read_unread, (hs0_6 t0_0).read_unread, (hs0_7 t0_0).read_unread, (hs0_8 t0_0).read_unread,
    blk2, blk3, blk4, blk5, blk6, blk7, blk8]
  exact congrFun ((power1_eq (mom1Of _ _ _ _)).trans (powers_eq (mom1Of _ _ _ _) _ (row1 _ _ _ _))) j

/-- The second moment's codes. -/
theorem final13 (c : Dev nD) : (dats m 0 c).arrAt 13 cfg0.N = codes (m2 m c) := by
  refine (dats m 0 c).arrAt_eq_of_after_last 13 t0_0 (by decide +kernel) _ fun j => ?_
  blk_simp
  rw [after0_13]
  unfold outsAt0
  frame_out
  simp only [(hs0_2 t0_0).read_unread, (hs0_3 t0_0).read_unread, (hs0_4 t0_0).read_unread,
    (hs0_5 t0_0).read_unread, (hs0_6 t0_0).read_unread, (hs0_7 t0_0).read_unread, (hs0_8 t0_0).read_unread,
    blk2, blk3, blk4, blk5, blk6, blk7, blk8]
  exact congrFun ((codes2_eq (mom2Of _ _ _ _)).trans (codes_eq (mom2Of _ _ _ _) _ (row2 _ _ _ _))) j

/-- The second moment's scales. -/
theorem final14 (c : Dev nD) : (dats m 0 c).arrAt 14 cfg0.N = scales (m2 m c) := by
  refine (dats m 0 c).arrAt_eq_of_after_last 14 t0_0 (by decide +kernel) _ fun j => ?_
  blk_simp
  rw [after0_14]
  unfold outsAt0
  frame_out
  simp only [(hs0_2 t0_0).read_unread, (hs0_3 t0_0).read_unread, (hs0_4 t0_0).read_unread,
    (hs0_5 t0_0).read_unread, (hs0_6 t0_0).read_unread, (hs0_7 t0_0).read_unread, (hs0_8 t0_0).read_unread,
    blk2, blk3, blk4, blk5, blk6, blk7, blk8]
  exact congrFun (scales_eq (mom2Of _ _ _ _) _ (row2 _ _ _ _)) j

/-- The second moment's exponents. -/
theorem final15 (c : Dev nD) : (dats m 0 c).arrAt 15 cfg0.N = powers (m2 m c) := by
  refine (dats m 0 c).arrAt_eq_of_after_last 15 t0_0 (by decide +kernel) _ fun j => ?_
  blk_simp
  rw [after0_15]
  unfold outsAt0
  frame_out
  simp only [(hs0_2 t0_0).read_unread, (hs0_3 t0_0).read_unread, (hs0_4 t0_0).read_unread,
    (hs0_5 t0_0).read_unread, (hs0_6 t0_0).read_unread, (hs0_7 t0_0).read_unread, (hs0_8 t0_0).read_unread,
    blk2, blk3, blk4, blk5, blk6, blk7, blk8]
  exact congrFun (powers_eq (mom2Of _ _ _ _) _ (row2 _ _ _ _)) j

end Cert.ReferenceIdeal.Val

end
-- ==== Proof.Adam.KerGroup.lean ====
/- One column group of the kernel's body, stated once: the sixteen groups of a block compute these functions of what they
   load. Each is read entry by entry, in the kernel's arithmetic. -/
module

public import proofs.«01_k».proof.Proof.Gen.KernelIdeal.Skeleton
public import proofs.«01_k».proof.Proof.Adam.Model
public import proofs.«01_k».proof.Proof.Adam.Reduce

@[expose] public section

set_option maxRecDepth 16384

noncomputable section

namespace Cert.KernelIdeal.Group

open Cert.KernelIdeal Cert.KernelIdeal.Gen Idealize.ShloMosaic Cert.Adam

/-- The constant `beta1` stands for nine tenths. -/
theorem beta1 : Named.named (F := Ideal) κ "beta1" (φ := .f32) 0x3F666666#32 = ((9 / 10 : ℝ) : EReal) :=
  IdealRules.named_const.ideal_named_scalar _ _ _ _ rfl
/-- The constant `beta2` stands for nineteen twentieths. -/
theorem beta2 : Named.named (F := Ideal) κ "beta2" (φ := .f32) 0x3F733333#32 = ((19 / 20 : ℝ) : EReal) :=
  IdealRules.named_const.ideal_named_scalar _ _ _ _ rfl
/-- The constant `ln2` stands for `ln 2`. -/
theorem ln2_eq : Named.named (F := Ideal) κ "ln2" (φ := .f32) 0x3F317218#32 = ln2 :=
  IdealRules.named_const.ideal_named_scalar _ _ _ _ rfl
/-- The constant `log2_max` stands for `log₂ 448`. -/
theorem log2_max : Named.named (F := Ideal) κ "log2_max" (φ := .f32) 0x410CEAED#32 = log2Max :=
  IdealRules.named_const.ideal_named_scalar _ _ _ _ rfl
/-- The constant `log2_range` stands for `log₂ 229376`. -/
theorem log2_range : Named.named (F := Ideal) κ "log2_range" (φ := .f32) 0x418E7576#32 = log2Range :=
  IdealRules.named_const.ideal_named_scalar _ _ _ _ rfl
/-- The constant `log2_range_8` stands for an eighth of `log₂ 229376`. -/
theorem log2_range_8 : Named.named (F := Ideal) κ "log2_range_8" (φ := .f32) 0x400E7576#32 = log2Range8 :=
  IdealRules.named_const.ideal_named_scalar _ _ _ _ rfl
/-- The constant `log2_beta1` stands for `log₂ (9/10)`. -/
theorem log2_beta1 : Named.named (F := Ideal) κ "log2_beta1" (φ := .f32) 0xBE1BA6B3#32 = ((Real.log (9 / 10) * (Real.log 2)⁻¹ : ℝ) : EReal) :=
  IdealRules.named_const.ideal_named_scalar _ _ _ _ rfl
/-- The constant `log2_beta2` stands for `log₂ (19/20)`. -/
theorem log2_beta2 : Named.named (F := Ideal) κ "log2_beta2" (φ := .f32) 0xBD978D9E#32 = ((Real.log (19 / 20) * (Real.log 2)⁻¹ : ℝ) : EReal) :=
  IdealRules.named_const.ideal_named_scalar _ _ _ _ rfl

/-- The absolute value is the larger of the value and its negative. -/
theorem absf_mag (x : EReal) : FloatOps.absf (F := Ideal) (φ := .f32) x = mag x := rfl
/-- The kernel's base-two exponential. -/
theorem exp2_eq (x : EReal) : FloatOps.exp2 (F := Ideal) (φ := .f32) x = Ideal.exp2 x := rfl
/-- The step as a real number. -/
theorem sitofp_eq (i : BitVec 32) : FloatOps.sitofp (F := Ideal) .f32 i = ((i.toInt : ℝ) : EReal) := rfl

/-- A constant over a group's tile. -/
abbrev bc (z : Ideal .f32) : FVec Ideal S32x128 .f32 := broadcast S32x128 z
/-- A constant over a group's column. -/
abbrev bc1 (z : Ideal .f32) : FVec Ideal S32x1 .f32 := broadcast S32x1 z
/-- A column over the group's lanes. -/
abbrev over (z : FVec Ideal S32x1 .f32) : FVec Ideal S32x128 .f32 := broadcastTo S32x128 z broadcasts_S32x1_S32x128
/-- Zero, one and 448. -/
abbrev c0 : Ideal .f32 := Scalar.ofBits .f32 0x00000000#32
@[inherit_doc c0] abbrev c1 : Ideal .f32 := Scalar.ofBits .f32 0x3F800000#32
@[inherit_doc c0] abbrev c448 : Ideal .f32 := Scalar.ofBits .f32 0x43E00000#32
/-- The constant `ln2`. -/
abbrev cLn2 : Ideal .f32 := Named.named (F := Ideal) κ "ln2" (φ := .f32) 0x3F317218#32
/-- The constant `log2_max`. -/
abbrev cMax : Ideal .f32 := Named.named (F := Ideal) κ "log2_max" (φ := .f32) 0x410CEAED#32

/-- The sign. -/
def gSign (x : FVec Ideal S32x128 .f32) : FVec Ideal S32x128 .f32 :=
  select (cmpf .ogt (absf x) (bc c0))
    (select (cmpf .olt x (constant S32x128 .f32 0x00000000#32)) (constant S32x128 .f32 0xBF800000#32) (constant S32x128 .f32 0x3F800000#32)) x

/-- Decoding a tile of codes with a column of scales and of exponents. -/
def gDeq (q : Vec Ideal S32x128 .fp8e4m3) (s k : Vec Ideal S1x32x1 .f32) : FVec Ideal S32x128 .f32 :=
  have x : FVec Ideal S32x128 .f32 := extf .f32 (shapeCast S32x128 q shapeCasts_S32x128_S32x128) bitsLt_fp8e4m3_f32
  select (cmpf .oeq x (bc c0)) (bc c0)
    (mulf (mulf (gSign x) (over (shapeCast S32x1 s shapeCasts_S1x32x1_S32x1)))
      (exp2 (divf (subf (divf (log (absf x)) (bc cLn2)) (bc cMax)) (over (shapeCast S32x1 k shapeCasts_S1x32x1_S32x1)))))

/-- A tile of gradients, widened. -/
def gGrad (g : Vec Ideal S32x128 .bf16) : FVec Ideal S32x128 .f32 :=
  extf .f32 (shapeCast S32x128 g shapeCasts_S32x128_S32x128) bitsLt_bf16_f32

/-- The first moments of a tile after the step. -/
def gM1 (q : Vec Ideal S32x128 .fp8e4m3) (s k : Vec Ideal S1x32x1 .f32) (g : Vec Ideal S32x128 .bf16) : FVec Ideal S32x128 .f32 :=
  addf (mulf (bc (Named.named (F := Ideal) κ "beta1" (φ := .f32) 0x3F666666#32)) (gDeq q s k))
    (mulf (bc (Scalar.ofBits .f32 0x3DCCCCCD#32)) (gGrad g))

/-- The second moments of a tile after the step. -/
def gM2 (q : Vec Ideal S32x128 .fp8e4m3) (s k : Vec Ideal S1x32x1 .f32) (g : Vec Ideal S32x128 .bf16) : FVec Ideal S32x128 .f32 :=
  addf (mulf (bc (Named.named (F := Ideal) κ "beta2" (φ := .f32) 0x3F733333#32)) (gDeq q s k))
    (mulf (mulf (bc (Scalar.ofBits .f32 0x3D4CCCCD#32)) (gGrad g)) (gGrad g))

/-- The update of a tile from its moments, `i` the step. -/
def gUpd (i : Elt Ideal .i32) (m v : FVec Ideal S32x128 .f32) (w : Vec Ideal S32x128 .f32) : FVec Ideal S32x128 .f32 :=
  addf (divf (divf m (broadcastTo S32x128 (k0_pay5 (F := Ideal) i) broadcasts_S1x1_S32x128))
      (addf (sqrt (divf v (broadcastTo S32x128 (k0_pay6 (F := Ideal) i) broadcasts_S1x1_S32x128))) (bc (Scalar.ofBits .f32 0x322BCC77#32))))
    (mulf (bc (Scalar.ofBits .f32 0x3DCCCCCD#32)) (shapeCast S32x128 w shapeCasts_S32x128_S32x128))

/-- The largest magnitude of each row. -/
def gMax (x : FVec Ideal S32x128 .f32) : FVec Ideal S32x1 .f32 :=
  shapeCast S32x1 (multiReduction .maximumf [1] S32 (absf x) 0xFF800000#32 reduces_S32x128_S32 (.inl rfl) rfl) shapeCasts_S32_S32x1

/-- The positive magnitudes, the others raised to the top. -/
def gPos (x : FVec Ideal S32x128 .f32) : FVec Ideal S32x128 .f32 :=
  select (cmpf .ogt (absf x) (bc c0)) (absf x) (bc (Scalar.ofBits .f32 0x7F800000#32))

/-- The smallest positive magnitude of each row. -/
def gMin (x : FVec Ideal S32x128 .f32) : FVec Ideal S32x1 .f32 :=
  shapeCast S32x1 (multiReduction .minimumf [1] S32 (gPos x) 0x7F800000#32 reduces_S32x128_S32 (.inl rfl) rfl) shapeCasts_S32_S32x1

/-- The scales, from the largest magnitudes. -/
def gScale (A : FVec Ideal S32x1 .f32) : FVec Ideal S32x1 .f32 := select (cmpf .ogt A (bc1 c0)) A (bc1 c1)

/-- The base-two logarithms of the scales. -/
def gLog (A : FVec Ideal S32x1 .f32) : FVec Ideal S32x1 .f32 := divf (log (gScale A)) (bc1 cLn2)

/-- The exponents, from the largest and the smallest positive magnitudes. -/
def gPow (A B : FVec Ideal S32x1 .f32) : FVec Ideal S32x1 .f32 :=
  select (cmpf .ogt A (bc1 c0))
    (divf (bc1 (Named.named (F := Ideal) κ "log2_range" (φ := .f32) 0x418E7576#32))
      (maximumf (subf (gLog A) (divf (log (select (cmpf .ogt A (bc1 c0)) B (bc1 c1))) (bc1 cLn2)))
        (bc1 (Named.named (F := Ideal) κ "log2_range_8" (φ := .f32) 0x400E7576#32))))
    (bc1 c1)

/-- The codes, from the moments, the logarithms of the scales and the exponents. -/
def gCode (x : FVec Ideal S32x128 .f32) (L K : FVec Ideal S32x1 .f32) : FVec Ideal S32x128 .fp8e4m3 :=
  truncf .fp8e4m3 (mulf (gSign x) (minimumf (bc c448) (maximumf (bc c0)
    (select (cmpf .ogt (absf x) (bc c0))
      (exp2 (addf (mulf (over K) (subf (divf (log (absf x)) (bc cLn2)) (over L))) (bc cMax)))
      (bc c0))))) bitsLt_fp8e4m3_f32

/-- The codes of a tile. -/
def gCodes (x : FVec Ideal S32x128 .f32) : FVec Ideal S32x128 .fp8e4m3 := gCode x (gLog (gMax x)) (gPow (gMax x) (gMin x))
/-- The scales of a tile, as stored. -/
def gScales (x : FVec Ideal S32x128 .f32) : FVec Ideal S1x32x1 .f32 := shapeCast S1x32x1 (gScale (gMax x)) shapeCasts_S32x1_S1x32x1
/-- The exponents of a tile, as stored. -/
def gPowers (x : FVec Ideal S32x128 .f32) : FVec Ideal S1x32x1 .f32 := shapeCast S1x32x1 (gPow (gMax x) (gMin x)) shapeCasts_S32x1_S1x32x1

section
variable (q : Vec Ideal S32x128 .fp8e4m3) (s k : Vec Ideal S1x32x1 .f32) (g : Vec Ideal S32x128 .bf16) (w : Vec Ideal S32x128 .f32)
  (x v : FVec Ideal S32x128 .f32) (A B : FVec Ideal S32x1 .f32) (r : Fin 32) (l : Fin 128)

/-- A decoded entry. -/
theorem gDeq_at : gDeq q s k (ix2 r l) = refDeq (q (ix2 r l)) (s (ix3 (0 : Fin 1) r (0 : Fin 1))) (k (ix3 (0 : Fin 1) r (0 : Fin 1))) := by
  rw [← kerDeq_eq]
  pointwise [gDeq, gSign, kerDeq, sg, lit_zero, lit_one, lit_neg_one, ln2_eq, log2_max, absf_mag, exp2_eq]

/-- A first moment. -/
theorem gM1_at : gM1 q s k g (ix2 r l)
    = mom1 (refDeq (q (ix2 r l)) (s (ix3 (0 : Fin 1) r (0 : Fin 1))) (k (ix3 (0 : Fin 1) r (0 : Fin 1)))) (g (ix2 r l)) := by
  pointwise [gM1, gGrad, gDeq_at, beta1, mom1]

/-- A second moment. -/
theorem gM2_at : gM2 q s k g (ix2 r l)
    = mom2 (refDeq (q (ix2 r l)) (s (ix3 (0 : Fin 1) r (0 : Fin 1))) (k (ix3 (0 : Fin 1) r (0 : Fin 1)))) (g (ix2 r l)) := by
  pointwise [gM2, gGrad, gDeq_at, beta2, mom2]

/-- An update. -/
theorem gUpd_at (i : Elt Ideal .i32) : gUpd i x v w (ix2 r l)
    = upd (x (ix2 r l)) (v (ix2 r l)) (refBc ((9 / 10 : ℝ) : EReal) (Scalar.sitofp (F := Ideal) .f32 i))
        (refBc ((19 / 20 : ℝ) : EReal) (Scalar.sitofp (F := Ideal) .f32 i)) (w (ix2 r l)) := by
  have e1 := kerBc_eq (β := 9 / 10) (by norm_num) ((i : BitVec 32).toInt : ℝ)
  have e2 := kerBc_eq (β := 19 / 20) (by norm_num) ((i : BitVec 32).toInt : ℝ)
  have es : Scalar.sitofp (F := Ideal) .f32 i = (((i : BitVec 32).toInt : ℝ) : EReal) := rfl
  rw [es, ← e1, ← e2]
  pointwise [gUpd, k0_pay5, k0_pay6, k0_pay4, upd, kerBc, log2_beta1, log2_beta2, lit_one, exp2_eq, sitofp_eq]

/-- The largest magnitude of a row. -/
theorem gMax_at : gMax x (ix2 r (0 : Fin 1)) = amax fun l => x (ix2 r l) := by
  have e : ∀ (y : FVec Ideal S32 .f32), shapeCast S32x1 y shapeCasts_S32_S32x1 (ix2 r (0 : Fin 1)) = y (ix1 r) := fun y => by pointwise
  exact (e _).trans (max2 (n0 := 32) (n1 := 128) reduces_S32x128_S32 (absf x) _ _ r)

/-- A positive magnitude. -/
theorem gPos_at : gPos x (ix2 r l) = if 0 < mag (x (ix2 r l)) then mag (x (ix2 r l)) else ⊤ := by
  pointwise [gPos, lit_zero, lit_top, absf_mag, exp2_eq]

/-- The smallest positive magnitude of a row. -/
theorem gMin_at : gMin x (ix2 r (0 : Fin 1)) = amin fun l => x (ix2 r l) := by
  have e : ∀ (y : FVec Ideal S32 .f32), shapeCast S32x1 y shapeCasts_S32_S32x1 (ix2 r (0 : Fin 1)) = y (ix1 r) := fun y => by pointwise
  exact ((e _).trans (min2 (n0 := 32) (n1 := 128) reduces_S32x128_S32 (gPos x) _ _ r)).trans
    (congrArg (fun h => (Finset.univ : Finset (Fin 128)).fold min ⊤ h) (funext (gPos_at x r)))

/-- A scale. -/
theorem gScale_at : gScale A (ix2 r (0 : Fin 1)) = scale (A (ix2 r (0 : Fin 1))) := by
  pointwise [gScale, scale, lit_zero, lit_one]

/-- The logarithm of a scale. -/
theorem gLog_at : gLog A (ix2 r (0 : Fin 1)) = Ideal.div (Ideal.log (scale (A (ix2 r (0 : Fin 1))))) ln2 := by
  pointwise [gLog, gScale_at, ln2_eq]

/-- An exponent. -/
theorem gPow_at : gPow A B (ix2 r (0 : Fin 1)) = kerPow (A (ix2 r (0 : Fin 1))) (B (ix2 r (0 : Fin 1))) := by
  pointwise [gPow, gLog_at, kerPow, lit_zero, lit_one, ln2_eq, log2_range, log2_range_8]

/-- A code. -/
theorem gCode_at (L K : FVec Ideal S32x1 .f32) (s : EReal) (hL : L (ix2 r (0 : Fin 1)) = Ideal.div (Ideal.log s) ln2) :
    gCode x L K (ix2 r l) = clip (x (ix2 r l)) (kerY (x (ix2 r l)) s (K (ix2 r (0 : Fin 1)))) := by
  pointwise [gCode, gSign, clip, kerY, sg, hL, lit_zero, lit_one, lit_neg_one, lit_448, ln2_eq, log2_max, absf_mag, exp2_eq]

/-- A tile's code at a lane is the model's. -/
theorem gCodes_at : gCodes x (ix2 r l) = codeAt (fun l => x (ix2 r l)) l := by
  unfold gCodes
  rw [gCode_at x r l _ _ _ (gLog_at (gMax x) r), gPow_at, gMax_at, gMin_at]
  exact code_eq (fun l => x (ix2 r l)) l

/-- A tile's stored scale. -/
theorem gScales_at : gScales x (ix3 (0 : Fin 1) r (0 : Fin 1)) = scale (amax fun l => x (ix2 r l)) := by
  have e : ∀ (y : FVec Ideal S32x1 .f32), shapeCast S1x32x1 y shapeCasts_S32x1_S1x32x1 (ix3 (0 : Fin 1) r (0 : Fin 1)) = y (ix2 r (0 : Fin 1)) :=
    fun y => by pointwise
  exact (e _).trans (by rw [gScale_at, gMax_at])

/-- A tile's stored exponent. -/
theorem gPowers_at : gPowers x (ix3 (0 : Fin 1) r (0 : Fin 1)) = refPow (amax fun l => x (ix2 r l)) (amin fun l => x (ix2 r l)) := by
  have e : ∀ (y : FVec Ideal S32x1 .f32), shapeCast S1x32x1 y shapeCasts_S32x1_S1x32x1 (ix3 (0 : Fin 1) r (0 : Fin 1)) = y (ix2 r (0 : Fin 1)) :=
    fun y => by pointwise
  exact (e _).trans (by rw [gPow_at, gMax_at, gMin_at, kerPow_eq])
end

end Cert.KernelIdeal.Group

end
-- ==== Proof.Adam.KerBlock.lean ====
/- What one grid point leaves in each output block: sixteen stores, group `j`'s at columns `128 j … 128 j + 127`, each the
   function of `Adam.KerGroup` of the tiles that group loads. -/
module

public import proofs.«01_k».proof.Proof.Gen.KernelIdeal.Frame
public import proofs.«01_k».proof.Proof.Adam.KerGroup

@[expose] public section

set_option maxRecDepth 16384

noncomputable section

namespace Cert.KernelIdeal.Block

open Cert.KernelIdeal Cert.KernelIdeal.Gen Cert.KernelIdeal.Group Idealize.ShloMosaic Idealize.ShloMosaic.TcCoe Idealize.SL.Sem
open Cert.Adam

/-- Group `j`'s columns of a parameter block. -/
abbrev rq (j : Fin 16) : Rect S32x2048 := Rect.unit ![0, 128 * j.val] ![32, 128] fun a => by
  match a with
  | ⟨0, _⟩ => exact le_refl 32
  | ⟨1, _⟩ => exact (by omega : 128 * j.val + 128 ≤ 2048)

/-- Group `j`'s column of a block of scales or exponents. -/
abbrev rs (j : Fin 16) : Rect S1x32x16 := Rect.unit ![0, 0, j.val] ![1, 32, 1] fun a => by
  match a with
  | ⟨0, _⟩ => exact le_refl 1
  | ⟨1, _⟩ => exact le_refl 32
  | ⟨2, _⟩ => exact (by omega : j.val + 1 ≤ 16)

/-- The groups in the order of the stores, the last first. -/
abbrev order : List (Fin 16) := [15, 14, 13, 12, 11, 10, 9, 8, 7, 6, 5, 4, 3, 2, 1, 0]

/-- The block of the step has an entry. -/
theorem pos1 : 0 < (Rect.unit (s := S1) ![0] ![1] inb_S1_S1_0).shape.numel := Nat.one_pos

variable (m : (ℓ : Loc nD τ sig) → Buf (Elt Ideal) ℓ) (c : Dev nD) (t : Fin cfg0.N)

/-- The step. -/
abbrev step : Elt Ideal .i32 := View.ld (iblk m c 0 t) (Rect.unit ![0] ![1] inb_S1_S1_0) (Shape.Idx.first pos1)

/-- Group `j`'s first moments. -/
abbrev tM1 (j : Fin 16) : FVec Ideal S32x128 .f32 :=
  gM1 (View.ld (iblk m c 3 t) (rq j)) (View.ld (iblk m c 4 t) (rs j)) (View.ld (iblk m c 5 t) (rs j)) (View.ld (iblk m c 2 t) (rq j))
/-- Group `j`'s second moments. -/
abbrev tM2 (j : Fin 16) : FVec Ideal S32x128 .f32 :=
  gM2 (View.ld (iblk m c 6 t) (rq j)) (View.ld (iblk m c 7 t) (rs j)) (View.ld (iblk m c 8 t) (rs j)) (View.ld (iblk m c 2 t) (rq j))

/-- The stores of the update. -/
theorem out9 : (outsAt0 m c t).1 = View.canon (Val := Elt Ideal) (order.map fun j =>
    (⟨rq j, gUpd (step m c t) (tM1 m c t j) (tM2 m c t j) (View.ld (iblk m c 1 t) (rq j))⟩ : View.Piece (Elt Ideal) S32x2048 .f32)) := by
  unfold outsAt0
  frame_out
  rfl

/-- The stores of the first moment's codes. -/
theorem out10 : (outsAt0 m c t).2.1 = View.canon (Val := Elt Ideal) (order.map fun j =>
    (⟨rq j, gCodes (tM1 m c t j)⟩ : View.Piece (Elt Ideal) S32x2048 .fp8e4m3)) := by
  unfold outsAt0
  frame_out
  rfl

/-- The stores of the first moment's scales. -/
theorem out11 : (outsAt0 m c t).2.2.1 = View.canon (Val := Elt Ideal) (order.map fun j =>
    (⟨rs j, gScales (tM1 m c t j)⟩ : View.Piece (Elt Ideal) S1x32x16 .f32)) := by
  unfold outsAt0
  frame_out
  rfl

/-- The stores of the first moment's exponents. -/
theorem out12 : (outsAt0 m c t).2.2.2.1 = View.canon (Val := Elt Ideal) (order.map fun j =>
    (⟨rs j, gPowers (tM1 m c t j)⟩ : View.Piece (Elt Ideal) S1x32x16 .f32)) := by
  unfold outsAt0
  frame_out
  rfl

/-- The stores of the second moment's codes. -/
theorem out13 : (outsAt0 m c t).2.2.2.2.1 = View.canon (Val := Elt Ideal) (order.map fun j =>
    (⟨rq j, gCodes (tM2 m c t j)⟩ : View.Piece (Elt Ideal) S32x2048 .fp8e4m3)) := by
  unfold outsAt0
  frame_out
  rfl

/-- The stores of the second moment's scales. -/
theorem out14 : (outsAt0 m c t).2.2.2.2.2.1 = View.canon (Val := Elt Ideal) (order.map fun j =>
    (⟨rs j, gScales (tM2 m c t j)⟩ : View.Piece (Elt Ideal) S1x32x16 .f32)) := by
  unfold outsAt0
  frame_out
  rfl

/-- The stores of the second moment's exponents. -/
theorem out15 : (outsAt0 m c t).2.2.2.2.2.2 = View.canon (Val := Elt Ideal) (order.map fun j =>
    (⟨rs j, gPowers (tM2 m c t j)⟩ : View.Piece (Elt Ideal) S1x32x16 .f32)) := by
  unfold outsAt0
  frame_out
  rfl

end Cert.KernelIdeal.Block

end
-- ==== Proof.Adam.KerLoad.lean ====
/- What one point of the kernel's grid loads, as entries of the argument arrays. Point `t` works on rows `32 (t/50) ..` of
   the flattened array and on column groups `16 (t mod 50) ..`; the host lines before the region only renumber. -/
module

public import proofs.«01_k».proof.Proof.Adam.KerBlock

@[expose] public section

set_option maxRecDepth 16384

noncomputable section

namespace Cert.KernelIdeal.Load

open Cert.KernelIdeal Cert.KernelIdeal.Gen Cert.KernelIdeal.Group Cert.KernelIdeal.Block Idealize.ShloMosaic Idealize.ShloMosaic.TcCoe Idealize.SL.Sem
open Cert.Adam

/-- Where each window sits at a point. -/
theorem idx : ∀ t : Fin cfg0.N, win0_1.index t = ![t.val / 50, t.val % 50] ∧ win0_2.index t = ![t.val / 50, t.val % 50]
    ∧ win0_3.index t = ![t.val / 50, t.val % 50] ∧ win0_4.index t = ![t.val % 50, t.val / 50, 0] ∧ win0_5.index t = ![t.val % 50, t.val / 50, 0]
    ∧ win0_6.index t = ![t.val / 50, t.val % 50] ∧ win0_7.index t = ![t.val % 50, t.val / 50, 0] ∧ win0_8.index t = ![t.val % 50, t.val / 50, 0]
    ∧ win0_9.index t = ![t.val / 50, t.val % 50] ∧ win0_10.index t = ![t.val / 50, t.val % 50] ∧ win0_11.index t = ![t.val % 50, t.val / 50, 0]
    ∧ win0_12.index t = ![t.val % 50, t.val / 50, 0] ∧ win0_13.index t = ![t.val / 50, t.val % 50] ∧ win0_14.index t = ![t.val % 50, t.val / 50, 0]
    ∧ win0_15.index t = ![t.val % 50, t.val / 50, 0] :=
  (by decide +kernel : ∀ t : Fin grid0.N, _)

variable (m : (ℓ : Loc nD τ sig) → Buf (Elt Ideal) ℓ) (c : Dev nD) (t : Fin cfg0.N)

/-- The grid has 400 points. -/
theorem lt400 (t : Fin cfg0.N) : t.val < 400 := lt_of_lt_of_eq t.isLt N_0

/-- A flattened row's first coordinate. -/
abbrev hi (i : Fin 256) : Fin 2 := ⟨i.val / 128, by omega⟩
/-- A flattened row's second coordinate. -/
abbrev lo (i : Fin 256) : Fin 128 := ⟨i.val % 128, by omega⟩
/-- Row `r` of point `t`'s block, in the flattened array. -/
abbrev row (r : Fin 32) : Fin 256 := ⟨t.val / 50 * 32 + r.val, by have := lt400 t; omega⟩
/-- Column group `j` of point `t`'s block. -/
abbrev col (j : Fin 16) : Fin 800 := ⟨t.val % 50 * 16 + j.val, by omega⟩
/-- Point `t`'s block of groups. -/
abbrev blkJ : Fin 50 := ⟨t.val % 50, by omega⟩

/-- Flattening the two leading axes, read at an index. -/
theorem flat_at {α : Type} (X : SB.Idx → α) (h : SB.ShapeCasts ⟨2, ![256, 102400]⟩) (i : Fin 256) (k : Fin 102400) :
    shapeCast ⟨2, ![256, 102400]⟩ X h (ix2 i k) = X (ix3 (hi i) (lo i) k) := by
  pointwise

/-- Flattening, splitting the groups by blocks and moving the blocks to the front, read at an index. -/
theorem split_at {α : Type} (X : SG.Idx → α) (h : SG.ShapeCasts ⟨2, ![256, 800]⟩) (h' : Shape.ShapeCasts ⟨2, ![256, 800]⟩ ⟨3, ![256, 50, 16]⟩)
    (ht : Shape.Transposes ⟨3, ![256, 50, 16]⟩ [1, 0, 2] ⟨3, ![50, 256, 16]⟩) (J : Fin 50) (i : Fin 256) (k : Fin 16) :
    transpose ⟨3, ![50, 256, 16]⟩ [1, 0, 2] (shapeCast ⟨3, ![256, 50, 16]⟩ (shapeCast ⟨2, ![256, 800]⟩ X h) h') ht (ix3 J i k)
      = X (ix3 (hi i) (lo i) (⟨J.val * 16 + k.val, by omega⟩ : Fin 800)) := by
  pointwise

/-- Joining the blocks of groups again, read at an index. -/
theorem join_at {α : Type} (X : Shape.Idx ⟨3, ![50, 256, 16]⟩ → α) (h' : Shape.ShapeCasts ⟨3, ![256, 50, 16]⟩ SG)
    (ht : Shape.Transposes ⟨3, ![50, 256, 16]⟩ [1, 0, 2] ⟨3, ![256, 50, 16]⟩) (b : Fin 2) (r : Fin 128) (g : Fin 800) :
    shapeCast SG (transpose ⟨3, ![256, 50, 16]⟩ [1, 0, 2] X ht) h' (ix3 b r g)
      = X (ix3 (⟨g.val / 16, by omega⟩ : Fin 50) (⟨b.val * 128 + r.val, by omega⟩ : Fin 256) (⟨g.val % 16, by omega⟩ : Fin 16)) := by
  pointwise

/-- Unflattening the rows, read at an index. -/
theorem fold_at {α : Type} (X : Shape.Idx ⟨2, ![256, 102400]⟩ → α) (h : Shape.ShapeCasts ⟨2, ![256, 102400]⟩ SB) (b : Fin 2) (r : Fin 128) (k : Fin 102400) :
    shapeCast SB X h (ix3 b r k) = X (ix2 (⟨b.val * 128 + r.val, by omega⟩ : Fin 256) k) := by
  pointwise

/-- Input 1 when the region starts. -/
theorem V1 : V m c main_v1 = shapeCast S256x102400 (m ((c : Thread nD τ).loc main_arg0)) shapeCasts_S2x128x102400_S256x102400 := by
  show StableHlo.after hostOps0 _ (Proc.devRef .tc main_v1) = _
  after_results
  rfl

/-- Group `j` of input 1's block, lane `l` of row `r`. -/
theorem ld1 (j : Fin 16) (r : Fin 32) (l : Fin 128) : View.ld (iblk m c 1 t) (rq j) (ix2 r l)
    = m ((c : Thread nD τ).loc main_arg0) (ent (hi (row t r)) (lo (row t r)) (col t j) l) := by
  have e : (win0_1.blk t).view.emb ((rq j).emb (ix2 r l)) = ix2 (row t r) (⟨(col t j).val * 128 + l.val, by omega⟩ : Fin 102400) := by
    blk_ext [idx t]
  show V m c main_v1 ((win0_1.blk t).view.emb ((rq j).emb (ix2 r l))) = _
  rw [e, V1]
  exact flat_at _ _ _ _

/-- Input 2 when the region starts. -/
theorem V2 : V m c main_v2 = shapeCast S256x102400 (m ((c : Thread nD τ).loc main_arg1)) shapeCasts_S2x128x102400_S256x102400 := by
  show StableHlo.after hostOps0 _ (Proc.devRef .tc main_v2) = _
  after_results
  rfl

/-- Group `j` of input 2's block, lane `l` of row `r`. -/
theorem ld2 (j : Fin 16) (r : Fin 32) (l : Fin 128) : View.ld (iblk m c 2 t) (rq j) (ix2 r l)
    = m ((c : Thread nD τ).loc main_arg1) (ent (hi (row t r)) (lo (row t r)) (col t j) l) := by
  have e : (win0_2.blk t).view.emb ((rq j).emb (ix2 r l)) = ix2 (row t r) (⟨(col t j).val * 128 + l.val, by omega⟩ : Fin 102400) := by
    blk_ext [idx t]
  show V m c main_v2 ((win0_2.blk t).view.emb ((rq j).emb (ix2 r l))) = _
  rw [e, V2]
  exact flat_at _ _ _ _

/-- Input 3 when the region starts. -/
theorem V3 : V m c main_v3 = shapeCast S256x102400 (m ((c : Thread nD τ).loc main_arg2)) shapeCasts_S2x128x102400_S256x102400 := by
  show StableHlo.after hostOps0 _ (Proc.devRef .tc main_v3) = _
  after_results
  rfl

/-- Group `j` of input 3's block, lane `l` of row `r`. -/
theorem ld3 (j : Fin 16) (r : Fin 32) (l : Fin 128) : View.ld (iblk m c 3 t) (rq j) (ix2 r l)
    = m ((c : Thread nD τ).loc main_arg2) (ent (hi (row t r)) (lo (row t r)) (col t j) l) := by
  have e : (win0_3.blk t).view.emb ((rq j).emb (ix2 r l)) = ix2 (row t r) (⟨(col t j).val * 128 + l.val, by omega⟩ : Fin 102400) := by
    blk_ext [idx t]
  show V m c main_v3 ((win0_3.blk t).view.emb ((rq j).emb (ix2 r l))) = _
  rw [e, V3]
  exact flat_at _ _ _ _

/-- Input 6 when the region starts. -/
theorem V10 : V m c main_v10 = shapeCast S256x102400 (m ((c : Thread nD τ).loc main_arg5)) shapeCasts_S2x128x102400_S256x102400 := by
  show StableHlo.after hostOps0 _ (Proc.devRef .tc main_v10) = _
  after_results
  rfl

/-- Group `j` of input 6's block, lane `l` of row `r`. -/
theorem ld6 (j : Fin 16) (r : Fin 32) (l : Fin 128) : View.ld (iblk m c 6 t) (rq j) (ix2 r l)
    = m ((c : Thread nD τ).loc main_arg5) (ent (hi (row t r)) (lo (row t r)) (col t j) l) := by
  have e : (win0_6.blk t).view.emb ((rq j).emb (ix2 r l)) = ix2 (row t r) (⟨(col t j).val * 128 + l.val, by omega⟩ : Fin 102400) := by
    blk_ext [idx t]
  show V m c main_v10 ((win0_6.blk t).view.emb ((rq j).emb (ix2 r l))) = _
  rw [e, V10]
  exact flat_at _ _ _ _

/-- Input 4 when the region starts. -/
theorem V6 : V m c main_v6 = transpose S50x256x16 [1, 0, 2] (shapeCast S256x50x16 (shapeCast S256x800 (m ((c : Thread nD τ).loc main_arg3))
    shapeCasts_S2x128x800_S256x800) shapeCasts_S256x800_S256x50x16) transposes_S256x50x16_S50x256x16_1_0_2 := by
  show StableHlo.after hostOps0 _ (Proc.devRef .tc main_v6) = _
  after_results
  rfl

/-- Group `j` of input 4's block, row `r`. -/
theorem ld4 (j : Fin 16) (r : Fin 32) : View.ld (iblk m c 4 t) (rs j) (ix3 (0 : Fin 1) r (0 : Fin 1))
    = m ((c : Thread nD τ).loc main_arg3) (grp (hi (row t r)) (lo (row t r)) (col t j)) := by
  have e : (win0_4.blk t).view.emb ((rs j).emb (ix3 (0 : Fin 1) r (0 : Fin 1))) = ix3 (blkJ t) (row t r) j := by
    blk_ext [idx t]
  show V m c main_v6 ((win0_4.blk t).view.emb ((rs j).emb (ix3 (0 : Fin 1) r (0 : Fin 1)))) = _
  rw [e, V6]
  exact split_at _ _ _ _ _ _ _

/-- Input 5 when the region starts. -/
theorem V9 : V m c main_v9 = transpose S50x256x16 [1, 0, 2] (shapeCast S256x50x16 (shapeCast S256x800 (m ((c : Thread nD τ).loc main_arg4))
    shapeCasts_S2x128x800_S256x800) shapeCasts_S256x800_S256x50x16) transposes_S256x50x16_S50x256x16_1_0_2 := by
  show StableHlo.after hostOps0 _ (Proc.devRef .tc main_v9) = _
  after_results
  rfl

/-- Group `j` of input 5's block, row `r`. -/
theorem ld5 (j : Fin 16) (r : Fin 32) : View.ld (iblk m c 5 t) (rs j) (ix3 (0 : Fin 1) r (0 : Fin 1))
    = m ((c : Thread nD τ).loc main_arg4) (grp (hi (row t r)) (lo (row t r)) (col t j)) := by
  have e : (win0_5.blk t).view.emb ((rs j).emb (ix3 (0 : Fin 1) r (0 : Fin 1))) = ix3 (blkJ t) (row t r) j := by
    blk_ext [idx t]
  show V m c main_v9 ((win0_5.blk t).view.emb ((rs j).emb (ix3 (0 : Fin 1) r (0 : Fin 1)))) = _
  rw [e, V9]
  exact split_at _ _ _ _ _ _ _

/-- Input 7 when the region starts. -/
theorem V13 : V m c main_v13 = transpose S50x256x16 [1, 0, 2] (shapeCast S256x50x16 (shapeCast S256x800 (m ((c : Thread nD τ).loc main_arg6))
    shapeCasts_S2x128x800_S256x800) shapeCasts_S256x800_S256x50x16) transposes_S256x50x16_S50x256x16_1_0_2 := by
  show StableHlo.after hostOps0 _ (Proc.devRef .tc main_v13) = _
  after_results
  rfl

/-- Group `j` of input 7's block, row `r`. -/
theorem ld7 (j : Fin 16) (r : Fin 32) : View.ld (iblk m c 7 t) (rs j) (ix3 (0 : Fin 1) r (0 : Fin 1))
    = m ((c : Thread nD τ).loc main_arg6) (grp (hi (row t r)) (lo (row t r)) (col t j)) := by
  have e : (win0_7.blk t).view.emb ((rs j).emb (ix3 (0 : Fin 1) r (0 : Fin 1))) = ix3 (blkJ t) (row t r) j := by
    blk_ext [idx t]
  show V m c main_v13 ((win0_7.blk t).view.emb ((rs j).emb (ix3 (0 : Fin 1) r (0 : Fin 1)))) = _
  rw [e, V13]
  exact split_at _ _ _ _ _ _ _

/-- Input 8 when the region starts. -/
theorem V16 : V m c main_v16 = transpose S50x256x16 [1, 0, 2] (shapeCast S256x50x16 (shapeCast S256x800 (m ((c : Thread nD τ).loc main_arg7))
    shapeCasts_S2x128x800_S256x800) shapeCasts_S256x800_S256x50x16) transposes_S256x50x16_S50x256x16_1_0_2 := by
  show StableHlo.after hostOps0 _ (Proc.devRef .tc main_v16) = _
  after_results
  rfl

/-- Group `j` of input 8's block, row `r`. -/
theorem ld8 (j : Fin 16) (r : Fin 32) : View.ld (iblk m c 8 t) (rs j) (ix3 (0 : Fin 1) r (0 : Fin 1))
    = m ((c : Thread nD τ).loc main_arg7) (grp (hi (row t r)) (lo (row t r)) (col t j)) := by
  have e : (win0_8.blk t).view.emb ((rs j).emb (ix3 (0 : Fin 1) r (0 : Fin 1))) = ix3 (blkJ t) (row t r) j := by
    blk_ext [idx t]
  show V m c main_v16 ((win0_8.blk t).view.emb ((rs j).emb (ix3 (0 : Fin 1) r (0 : Fin 1)))) = _
  rw [e, V16]
  exact split_at _ _ _ _ _ _ _

/-- The step when the region starts. -/
theorem V0 : V m c main_v0 = shapeCast S1 (m ((c : Thread nD τ).loc main_arg8)) shapeCasts_S_S1 := by
  show StableHlo.after hostOps0 _ (Proc.devRef .tc main_v0) = _
  after_results
  rfl

/-- The step the point reads is the argument. -/
theorem step_eq : step m c t = m ((c : Thread nD τ).loc main_arg8) ix0 := by
  show V m c main_v0 _ = _
  rw [V0]
  pointwise
  blk_ext

/-- The first moments after the step, by group and lane. -/
abbrev m1 := M1 (m ((c : Thread nD τ).loc main_arg2)) (m ((c : Thread nD τ).loc main_arg3)) (m ((c : Thread nD τ).loc main_arg4))
  (m ((c : Thread nD τ).loc main_arg1))
/-- The second moments after the step, by group and lane. -/
abbrev m2 := M2 (m ((c : Thread nD τ).loc main_arg5)) (m ((c : Thread nD τ).loc main_arg6)) (m ((c : Thread nD τ).loc main_arg7))
  (m ((c : Thread nD τ).loc main_arg1))

/-- The first moments of group `j` at point `t`. -/
theorem tM1_at (j : Fin 16) (r : Fin 32) (l : Fin 128) :
    tM1 m c t j (ix2 r l) = m1 m c (hi (row t r)) (lo (row t r)) (col t j) l := by
  refine (gM1_at _ _ _ _ r l).trans ?_
  rw [ld3, ld4, ld5, ld2]
  rfl

/-- The second moments of group `j` at point `t`. -/
theorem tM2_at (j : Fin 16) (r : Fin 32) (l : Fin 128) :
    tM2 m c t j (ix2 r l) = m2 m c (hi (row t r)) (lo (row t r)) (col t j) l := by
  refine (gM2_at _ _ _ _ r l).trans ?_
  rw [ld6, ld7, ld8, ld2]
  rfl

end Cert.KernelIdeal.Load

end
-- ==== Proof.Adam.KerValue.lean ====
/- The arrays the kernel's region leaves, as functions of the arguments: every block is the stores of its sixteen groups,
   and the blocks tile the array. -/
module

public import proofs.«01_k».proof.Proof.Adam.KerLoad

@[expose] public section

set_option maxRecDepth 16384

noncomputable section

namespace Cert.KernelIdeal.Val

open Cert.KernelIdeal Cert.KernelIdeal.Gen Cert.KernelIdeal.Group Cert.KernelIdeal.Block Idealize.ShloMosaic Idealize.ShloMosaic.TcCoe Idealize.SL.Sem
open Cert.Adam Cert.KernelIdeal.Load

/-- Sixteen stores, one per column group, leave the block whose groups they are. -/
theorem canon_q {e : EltTy} (G : S32x2048.Idx → Elt Ideal e) (P : Fin 16 → S32x128.Idx → Elt Ideal e)
    (h : ∀ (j : Fin 16) (r : Fin 32) (l : Fin 128), P j (ix2 r l) = G (ix2 r (⟨128 * j.val + l.val, by omega⟩ : Fin 2048))) :
    View.canon (Val := Elt Ideal) (order.map fun j => (⟨rq j, P j⟩ : View.Piece (Elt Ideal) S32x2048 e)) = G := by
  have he : ∀ (j : Fin 16) (r : Fin 32) (l : Fin 128), (rq j).emb (ix2 r l) = ix2 r (⟨128 * j.val + l.val, by omega⟩ : Fin 2048) := by
    intro j r l
    blk_ext
  funext y
  refine View.canon_apply_of_pieces G _ (fun p hp x => ?_) y ?_
  · obtain ⟨j, _, rfl⟩ := List.mem_map.1 hp
    obtain ⟨r, l, rfl⟩ : ∃ (r : Fin 32) (l : Fin 128), x = ix2 r l := ⟨x 0, x 1, by funext a; match a with | ⟨0, _⟩ => rfl | ⟨1, _⟩ => rfl⟩
    exact (h j r l).trans (congrArg G (he j r l).symm)
  · have h1 : (y 1).val < 2048 := (y 1).isLt
    have hj : ∀ j : Fin 16, j ∈ order := by decide
    refine ⟨_, List.mem_map.2 ⟨(⟨(y 1).val / 128, by omega⟩ : Fin 16), hj _, rfl⟩, ?_⟩
    have hy : y = (rq (⟨(y 1).val / 128, by omega⟩ : Fin 16)).emb (ix2 (y 0) (⟨(y 1).val % 128, by omega⟩ : Fin 128)) := by
      blk_ext
    exact (congrArg (· ∈ (rq (⟨(y 1).val / 128, by omega⟩ : Fin 16)).set) hy).mpr (LoadRect.idx_mem _ _)

/-- Sixteen stores, one per group, leave the block of scales or exponents whose columns they are. -/
theorem canon_s {e : EltTy} (G : S1x32x16.Idx → Elt Ideal e) (P : Fin 16 → S1x32x1.Idx → Elt Ideal e)
    (h : ∀ (j : Fin 16) (r : Fin 32), P j (ix3 (0 : Fin 1) r (0 : Fin 1)) = G (ix3 (0 : Fin 1) r j)) :
    View.canon (Val := Elt Ideal) (order.map fun j => (⟨rs j, P j⟩ : View.Piece (Elt Ideal) S1x32x16 e)) = G := by
  have he : ∀ (j : Fin 16) (r : Fin 32), (rs j).emb (ix3 (0 : Fin 1) r (0 : Fin 1)) = ix3 (0 : Fin 1) r j := by
    intro j r
    blk_ext
  funext y
  refine View.canon_apply_of_pieces G _ (fun p hp x => ?_) y ?_
  · obtain ⟨j, _, rfl⟩ := List.mem_map.1 hp
    obtain ⟨r, rfl⟩ : ∃ r : Fin 32, x = ix3 (0 : Fin 1) r (0 : Fin 1) := ⟨x 1, by
      have h0 : (x 0).val < 1 := (x 0).isLt
      have h2 : (x 2).val < 1 := (x 2).isLt
      funext a
      match a with
      | ⟨0, _⟩ => exact Fin.ext (show (x 0).val = 0 by omega)
      | ⟨1, _⟩ => rfl
      | ⟨2, _⟩ => exact Fin.ext (show (x 2).val = 0 by omega)⟩
    exact (h j r).trans (congrArg G (he j r).symm)
  · have hj : ∀ j : Fin 16, j ∈ order := by decide
    refine ⟨_, List.mem_map.2 ⟨(y 2 : Fin 16), hj _, rfl⟩, ?_⟩
    have hy : y = (rs (y 2 : Fin 16)).emb (ix3 (0 : Fin 1) (y 1 : Fin 32) (0 : Fin 1)) := by
      blk_ext
    exact (congrArg (· ∈ (rs (y 2 : Fin 16)).set) hy).mpr (LoadRect.idx_mem _ _)

/-- A flattened parameter-sized array from its values by group and lane. -/
def flat (f : Fin 2 → Fin 128 → Fin 800 → Fin 128 → EReal) : S256x102400.Idx → EReal := fun i =>
  f (hi (i 0)) (lo (i 0)) (⟨(i 1).val / 128, by have : (i 1).val < 102400 := (i 1).isLt; omega⟩ : Fin 800)
    (⟨(i 1).val % 128, Nat.mod_lt _ (by norm_num)⟩ : Fin 128)

/-- An array of group values laid out by blocks of sixteen groups. -/
def tiled (h : (Fin 128 → EReal) → EReal) (f : Fin 2 → Fin 128 → Fin 800 → Fin 128 → EReal) : S50x256x16.Idx → EReal := fun i =>
  h (f (hi (i 1)) (lo (i 1)) (⟨(i 0).val * 16 + (i 2).val, by
    have : (i 0).val < 50 := (i 0).isLt
    have : (i 2).val < 16 := (i 2).isLt
    omega⟩ : Fin 800))

/-- Unflattened, the array of the same values. -/
theorem fold_flat (f) (h : S256x102400.ShapeCasts S2x128x102400) : shapeCast S2x128x102400 (flat f) h = ofLanes f := by
  refine eq_ofLanes fun b r g l => (fold_at _ h b r _).trans ?_
  unfold flat
  congr 1
  · exact Fin.ext (show (b.val * 128 + r.val) / 128 = b.val by omega)
  · exact Fin.ext (show (b.val * 128 + r.val) % 128 = r.val by omega)
  · exact Fin.ext (show (g.val * 128 + l.val) / 128 = g.val by omega)
  · exact Fin.ext (show (g.val * 128 + l.val) % 128 = l.val by omega)

/-- With the blocks joined again, the array of the same group values. -/
theorem join_tiled (k f) (ht : S50x256x16.Transposes [1, 0, 2] S256x50x16) (h : S256x50x16.ShapeCasts S2x128x800) :
    shapeCast S2x128x800 (transpose S256x50x16 [1, 0, 2] (tiled k f) ht) h = ofGroups k f := by
  refine eq_ofGroups fun b r g => (join_at _ h ht b r g).trans ?_
  unfold tiled
  congr 2
  · exact Fin.ext (show (b.val * 128 + r.val) / 128 = b.val by omega)
  · exact Fin.ext (show (b.val * 128 + r.val) % 128 = r.val by omega)
  · exact Fin.ext (show g.val / 16 * 16 + g.val % 16 = g.val by omega)

variable (m : (ℓ : Loc nD τ sig) → Buf (Elt Ideal) ℓ) (c : Dev nD) (t : Fin cfg0.N)

/-- The flattened array read at lane `l` of group `j` of row `r` of point `t`'s block. -/
theorem flat_blk (f) (j : Fin 16) (r : Fin 32) (l : Fin 128) (i : S256x102400.Idx) (h0 : (i 0).val = (row t r).val)
    (h1 : (i 1).val = (col t j).val * 128 + l.val) : flat f i = f (hi (row t r)) (lo (row t r)) (col t j) l := by
  have e0 : (i 0 : Fin 256) = row t r := Fin.ext h0
  unfold flat
  rw [e0]
  congr 1
  · exact Fin.ext (show (i 1).val / 128 = (col t j).val by omega)
  · exact Fin.ext (show (i 1).val % 128 = l.val by omega)

/-- The array of group values read at group `j` of row `r` of point `t`'s block. -/
theorem tiled_blk (k f) (j : Fin 16) (r : Fin 32) (i : S50x256x16.Idx) (h0 : (i 0).val = (blkJ t).val)
    (h1 : (i 1).val = (row t r).val) (h2 : (i 2).val = j.val) : tiled k f i = k (f (hi (row t r)) (lo (row t r)) (col t j)) := by
  have e1 : (i 1 : Fin 256) = row t r := Fin.ext h1
  unfold tiled
  rw [e1]
  congr 2
  exact Fin.ext (show (i 0).val * 16 + (i 2).val = t.val % 50 * 16 + j.val by rw [h0, h2])

/-- The update at every group and lane. -/
abbrev up := updAt (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7))
  (Scalar.sitofp (F := Ideal) .f32 (m ((c : Thread nD τ).loc main_arg8) ix0))

/-- A row of group `j`'s first moments. -/
theorem row1 (j : Fin 16) (r : Fin 32) : (fun l : Fin 128 => tM1 m c t j (ix2 r l)) = m1 m c (hi (row t r)) (lo (row t r)) (col t j) :=
  funext fun l => tM1_at m c t j r l
/-- A row of group `j`'s second moments. -/
theorem row2 (j : Fin 16) (r : Fin 32) : (fun l : Fin 128 => tM2 m c t j (ix2 r l)) = m2 m c (hi (row t r)) (lo (row t r)) (col t j) :=
  funext fun l => tM2_at m c t j r l

/-- The update, flattened. -/
theorem final9 : (dats m 0 c).arrAt 9 cfg0.N = flat (up m c) := by
  refine (dats m 0 c).arrAt_eq_of_covers 9 _ (by decide +kernel) fun t _ y => ?_
  blk_simp
  rw [after0_9, out9]
  refine congrFun (canon_q (e := .f32) (fun y => flat (up m c) ((win0_9.blk t).view.emb y)) _ fun j r l => ?_) y
  refine (gUpd_at _ _ _ r l _).trans ?_
  rw [tM1_at, tM2_at, ld1, step_eq]
  refine (flat_blk t (up m c) j r l _ ?_ ?_).symm
  · blk_simp [idx t]
  · blk_simp [idx t]
    exact (by omega : t.val % 50 * 2048 + (128 * j.val + l.val) = (t.val % 50 * 16 + j.val) * 128 + l.val)

/-- The first moment's codes, flattened. -/
theorem final10 : (dats m 0 c).arrAt 10 cfg0.N = flat (fun b r g l => codeAt (m1 m c b r g) l) := by
  refine (dats m 0 c).arrAt_eq_of_covers 10 _ (by decide +kernel) fun t _ y => ?_
  blk_simp
  rw [after0_10, out10]
  refine congrFun (canon_q (e := .fp8e4m3) (fun y => flat (fun b r g l => codeAt (m1 m c b r g) l) ((win0_10.blk t).view.emb y)) _ fun j r l => ?_) y
  refine (gCodes_at _ r l).trans ?_
  rw [row1]
  refine (flat_blk t (fun b r g l => codeAt (m1 m c b r g) l) j r l _ ?_ ?_).symm
  · blk_simp [idx t]
  · blk_simp [idx t]
    exact (by omega : t.val % 50 * 2048 + (128 * j.val + l.val) = (t.val % 50 * 16 + j.val) * 128 + l.val)

/-- The second moment's codes, flattened. -/
theorem final13 : (dats m 0 c).arrAt 13 cfg0.N = flat (fun b r g l => codeAt (m2 m c b r g) l) := by
  refine (dats m 0 c).arrAt_eq_of_covers 13 _ (by decide +kernel) fun t _ y => ?_
  blk_simp
  rw [after0_13, out13]
  refine congrFun (canon_q (e := .fp8e4m3) (fun y => flat (fun b r g l => codeAt (m2 m c b r g) l) ((win0_13.blk t).view.emb y)) _ fun j r l => ?_) y
  refine (gCodes_at _ r l).trans ?_
  rw [row2]
  refine (flat_blk t (fun b r g l => codeAt (m2 m c b r g) l) j r l _ ?_ ?_).symm
  · blk_simp [idx t]
  · blk_simp [idx t]
    exact (by omega : t.val % 50 * 2048 + (128 * j.val + l.val) = (t.val % 50 * 16 + j.val) * 128 + l.val)

/-- The first moment's scales, laid out by blocks of groups. -/
theorem final11 : (dats m 0 c).arrAt 11 cfg0.N = tiled (fun x => scale (amax x)) (m1 m c) := by
  refine (dats m 0 c).arrAt_eq_of_covers 11 _ (by decide +kernel) fun t _ y => ?_
  blk_simp
  rw [after0_11, out11]
  refine congrFun (canon_s (e := .f32) (fun y => tiled (fun x => scale (amax x)) (m1 m c) ((win0_11.blk t).view.emb y)) _ fun j r => ?_) y
  refine (gScales_at _ r).trans ?_
  rw [row1]
  refine (tiled_blk t (fun x => scale (amax x)) (m1 m c) j r _ ?_ ?_ ?_).symm
  · blk_simp [idx t]
    rfl
  · blk_simp [idx t]
  · blk_simp [idx t]

/-- The first moment's exponents, laid out by blocks of groups. -/
theorem final12 : (dats m 0 c).arrAt 12 cfg0.N = tiled (fun x => refPow (amax x) (amin x)) (m1 m c) := by
  refine (dats m 0 c).arrAt_eq_of_covers 12 _ (by decide +kernel) fun t _ y => ?_
  blk_simp
  rw [after0_12, out12]
  refine congrFun (canon_s (e := .f32) (fun y => tiled (fun x => refPow (amax x) (amin x)) (m1 m c) ((win0_12.blk t).view.emb y)) _ fun j r => ?_) y
  refine (gPowers_at _ r).trans ?_
  rw [row1]
  refine (tiled_blk t (fun x => refPow (amax x) (amin x)) (m1 m c) j r _ ?_ ?_ ?_).symm
  · blk_simp [idx t]
    rfl
  · blk_simp [idx t]
  · blk_simp [idx t]

/-- The second moment's scales, laid out by blocks of groups. -/
theorem final14 : (dats m 0 c).arrAt 14 cfg0.N = tiled (fun x => scale (amax x)) (m2 m c) := by
  refine (dats m 0 c).arrAt_eq_of_covers 14 _ (by decide +kernel) fun t _ y => ?_
  blk_simp
  rw [after0_14, out14]
  refine congrFun (canon_s (e := .f32) (fun y => tiled (fun x => scale (amax x)) (m2 m c) ((win0_14.blk t).view.emb y)) _ fun j r => ?_) y
  refine (gScales_at _ r).trans ?_
  rw [row2]
  refine (tiled_blk t (fun x => scale (amax x)) (m2 m c) j r _ ?_ ?_ ?_).symm
  · blk_simp [idx t]
    rfl
  · blk_simp [idx t]
  · blk_simp [idx t]

/-- The second moment's exponents, laid out by blocks of groups. -/
theorem final15 : (dats m 0 c).arrAt 15 cfg0.N = tiled (fun x => refPow (amax x) (amin x)) (m2 m c) := by
  refine (dats m 0 c).arrAt_eq_of_covers 15 _ (by decide +kernel) fun t _ y => ?_
  blk_simp
  rw [after0_15, out15]
  refine congrFun (canon_s (e := .f32) (fun y => tiled (fun x => refPow (amax x) (amin x)) (m2 m c) ((win0_15.blk t).view.emb y)) _ fun j r => ?_) y
  refine (gPowers_at _ r).trans ?_
  rw [row2]
  refine (tiled_blk t (fun x => refPow (amax x) (amin x)) (m2 m c) j r _ ?_ ?_ ?_).symm
  · blk_simp [idx t]
    rfl
  · blk_simp [idx t]
  · blk_simp [idx t]

end Cert.KernelIdeal.Val

end
-- ==== Proof.Adam.KerRun.lean ====
/- The kernel's seven results after its run: the host lines after the region read off the region's arrays. -/
module

public import proofs.«01_k».proof.Proof.Adam.KerValue

@[expose] public section

set_option maxRecDepth 16384

noncomputable section

namespace Cert.KernelIdeal.Run

open Cert.KernelIdeal Cert.KernelIdeal.Gen Idealize.ShloMosaic Idealize.ShloMosaic.TcCoe Idealize.SL.Sem
open Cert.Adam Cert.KernelIdeal.Load Cert.KernelIdeal.Val

variable (m : (ℓ : Loc nD τ sig) → Buf (Elt Ideal) ℓ) (c : Dev nD)

/-- The buffers when the region ends: every window's array as the region left it. -/
abbrev exit : Valuation τ sig (Elt Ideal) := Pipeline.withArrays spec0 c (V0 m c) fun w => (dats m 0 c).arrAt w cfg0.N

/-- A window's array when the region ends. -/
theorem exit_arr (w : Fin 16) : exit m c (Proc.devRef .tc (Pipeline.arrRef spec0 w)) = (dats m 0 c).arrAt w cfg0.N :=
  Pipeline.withArrays_arr spec0 (by decide) c (V0 m c) _ w

/-- The host lines after the region, read at result 1. -/
theorem tail18 (W : Valuation τ sig (Elt Ideal)) : StableHlo.after hostOps1 W (Proc.devRef .tc main_v18)
    = shapeCast S2x128x102400 ((W (Proc.devRef .tc main_v17_0) : (⟨S256x102400, .f32⟩ : BufTy).Contents (Elt Ideal))) shapeCasts_S256x102400_S2x128x102400 := by
  after_results
  rfl

/-- The update. -/
theorem res18 : Pipeline.afterTail₀ cfgs (dats m) 0 (V0 m) [hostOps1] c main_v18 = ofLanes (up m c) := by
  have e : (exit m c (Proc.devRef .tc main_v17_0) : (⟨S256x102400, .f32⟩ : BufTy).Contents (Elt Ideal)) = _ := (exit_arr m c 9).trans (final9 m c)
  refine (tail18 (exit m c)).trans ?_
  rw [e]
  exact fold_flat _ _

/-- The host lines after the region, read at result 2. -/
theorem tail19 (W : Valuation τ sig (Elt Ideal)) : StableHlo.after hostOps1 W (Proc.devRef .tc main_v19)
    = shapeCast S2x128x102400 ((W (Proc.devRef .tc main_v17_1) : (⟨S256x102400, .fp8e4m3⟩ : BufTy).Contents (Elt Ideal))) shapeCasts_S256x102400_S2x128x102400 := by
  after_results
  rfl

/-- The first moment's codes. -/
theorem res19 : Pipeline.afterTail₀ cfgs (dats m) 0 (V0 m) [hostOps1] c main_v19 = codes (m1 m c) := by
  have e : (exit m c (Proc.devRef .tc main_v17_1) : (⟨S256x102400, .fp8e4m3⟩ : BufTy).Contents (Elt Ideal)) = _ := (exit_arr m c 10).trans (final10 m c)
  refine (tail19 (exit m c)).trans ?_
  rw [e]
  exact fold_flat _ _

/-- The host lines after the region, read at result 3. -/
theorem tail21 (W : Valuation τ sig (Elt Ideal)) : StableHlo.after hostOps1 W (Proc.devRef .tc main_v21)
    = shapeCast S2x128x800 (transpose S256x50x16 [1, 0, 2] ((W (Proc.devRef .tc main_v17_2) : (⟨S50x256x16, .f32⟩ : BufTy).Contents (Elt Ideal))) transposes_S50x256x16_S256x50x16_1_0_2) shapeCasts_S256x50x16_S2x128x800 := by
  after_results
  rfl

/-- The first moment's scales. -/
theorem res21 : Pipeline.afterTail₀ cfgs (dats m) 0 (V0 m) [hostOps1] c main_v21 = scales (m1 m c) := by
  have e : (exit m c (Proc.devRef .tc main_v17_2) : (⟨S50x256x16, .f32⟩ : BufTy).Contents (Elt Ideal)) = _ := (exit_arr m c 11).trans (final11 m c)
  refine (tail21 (exit m c)).trans ?_
  rw [e]
  exact join_tiled _ _ _ _

/-- The host lines after the region, read at result 4. -/
theorem tail23 (W : Valuation τ sig (Elt Ideal)) : StableHlo.after hostOps1 W (Proc.devRef .tc main_v23)
    = shapeCast S2x128x800 (transpose S256x50x16 [1, 0, 2] ((W (Proc.devRef .tc main_v17_3) : (⟨S50x256x16, .f32⟩ : BufTy).Contents (Elt Ideal))) transposes_S50x256x16_S256x50x16_1_0_2) shapeCasts_S256x50x16_S2x128x800 := by
  after_results
  rfl

/-- The first moment's exponents. -/
theorem res23 : Pipeline.afterTail₀ cfgs (dats m) 0 (V0 m) [hostOps1] c main_v23 = powers (m1 m c) := by
  have e : (exit m c (Proc.devRef .tc main_v17_3) : (⟨S50x256x16, .f32⟩ : BufTy).Contents (Elt Ideal)) = _ := (exit_arr m c 12).trans (final12 m c)
  refine (tail23 (exit m c)).trans ?_
  rw [e]
  exact join_tiled _ _ _ _

/-- The host lines after the region, read at result 5. -/
theorem tail24 (W : Valuation τ sig (Elt Ideal)) : StableHlo.after hostOps1 W (Proc.devRef .tc main_v24)
    = shapeCast S2x128x102400 ((W (Proc.devRef .tc main_v17_4) : (⟨S256x102400, .fp8e4m3⟩ : BufTy).Contents (Elt Ideal))) shapeCasts_S256x102400_S2x128x102400 := by
  after_results
  rfl

/-- The second moment's codes. -/
theorem res24 : Pipeline.afterTail₀ cfgs (dats m) 0 (V0 m) [hostOps1] c main_v24 = codes (m2 m c) := by
  have e : (exit m c (Proc.devRef .tc main_v17_4) : (⟨S256x102400, .fp8e4m3⟩ : BufTy).Contents (Elt Ideal)) = _ := (exit_arr m c 13).trans (final13 m c)
  refine (tail24 (exit m c)).trans ?_
  rw [e]
  exact fold_flat _ _

/-- The host lines after the region, read at result 6. -/
theorem tail26 (W : Valuation τ sig (Elt Ideal)) : StableHlo.after hostOps1 W (Proc.devRef .tc main_v26)
    = shapeCast S2x128x800 (transpose S256x50x16 [1, 0, 2] ((W (Proc.devRef .tc main_v17_5) : (⟨S50x256x16, .f32⟩ : BufTy).Contents (Elt Ideal))) transposes_S50x256x16_S256x50x16_1_0_2) shapeCasts_S256x50x16_S2x128x800 := by
  after_results
  rfl

/-- The second moment's scales. -/
theorem res26 : Pipeline.afterTail₀ cfgs (dats m) 0 (V0 m) [hostOps1] c main_v26 = scales (m2 m c) := by
  have e : (exit m c (Proc.devRef .tc main_v17_5) : (⟨S50x256x16, .f32⟩ : BufTy).Contents (Elt Ideal)) = _ := (exit_arr m c 14).trans (final14 m c)
  refine (tail26 (exit m c)).trans ?_
  rw [e]
  exact join_tiled _ _ _ _

/-- The host lines after the region, read at result 7. -/
theorem tail28 (W : Valuation τ sig (Elt Ideal)) : StableHlo.after hostOps1 W (Proc.devRef .tc main_v28)
    = shapeCast S2x128x800 (transpose S256x50x16 [1, 0, 2] ((W (Proc.devRef .tc main_v17_6) : (⟨S50x256x16, .f32⟩ : BufTy).Contents (Elt Ideal))) transposes_S50x256x16_S256x50x16_1_0_2) shapeCasts_S256x50x16_S2x128x800 := by
  after_results
  rfl

/-- The second moment's exponents. -/
theorem res28 : Pipeline.afterTail₀ cfgs (dats m) 0 (V0 m) [hostOps1] c main_v28 = powers (m2 m c) := by
  have e : (exit m c (Proc.devRef .tc main_v17_6) : (⟨S50x256x16, .f32⟩ : BufTy).Contents (Elt Ideal)) = _ := (exit_arr m c 15).trans (final15 m c)
  refine (tail28 (exit m c)).trans ?_
  rw [e]
  exact join_tiled _ _ _ _

variable (ρ : Dev nD → PrngReg)

/-- Every run of the kernel ends with these results and its arguments unchanged. -/
theorem run : θ_run defs (onTc (τ := τ) (main (F := Ideal))) ⟨m, fun _ => 0, ρ⟩ (fun r => ∀ c : Dev nD,
      r.2.mem ((c.tc : Thread nD τ).loc main_v18) = ofLanes (up m c)
      ∧ r.2.mem ((c.tc : Thread nD τ).loc main_v19) = codes (m1 m c)
      ∧ r.2.mem ((c.tc : Thread nD τ).loc main_v21) = scales (m1 m c)
      ∧ r.2.mem ((c.tc : Thread nD τ).loc main_v23) = powers (m1 m c)
      ∧ r.2.mem ((c.tc : Thread nD τ).loc main_v24) = codes (m2 m c)
      ∧ r.2.mem ((c.tc : Thread nD τ).loc main_v26) = scales (m2 m c)
      ∧ r.2.mem ((c.tc : Thread nD τ).loc main_v28) = powers (m2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (θ_run_and (run_main m ρ) (unchanged m ρ))
  have rest := (h.1 c).2
  exact ⟨(rest main_v18 (Pipeline.mem_restRefs_of main_v18 (by decide) (by decide))).trans (res18 m c),
    (rest main_v19 (Pipeline.mem_restRefs_of main_v19 (by decide) (by decide))).trans (res19 m c),
    (rest main_v21 (Pipeline.mem_restRefs_of main_v21 (by decide) (by decide))).trans (res21 m c),
    (rest main_v23 (Pipeline.mem_restRefs_of main_v23 (by decide) (by decide))).trans (res23 m c),
    (rest main_v24 (Pipeline.mem_restRefs_of main_v24 (by decide) (by decide))).trans (res24 m c),
    (rest main_v26 (Pipeline.mem_restRefs_of main_v26 (by decide) (by decide))).trans (res26 m c),
    (rest main_v28 (Pipeline.mem_restRefs_of main_v28 (by decide) (by decide))).trans (res28 m c),
    h.2 c⟩

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Adam.RefValue
public import proofs.«01_k».proof.Proof.Adam.KerRun
public import Idealize.ShloMosaic.Adequacy
public import Idealize.ShloMosaic.Init

@[expose] public section

noncomputable section

namespace Cert.Proof

open Idealize.ShloMosaic Idealize.ShloMosaic.TcCoe Idealize.SL.Sem Cert.Adam

/-- The kernel ends quietly, its arguments unchanged. -/
theorem frame_p : Cert.quiescent_Kernel := fun m ρ _ => Cert.Kernel.Gen.frame m ρ
/-- The idealized kernel ends quietly, its arguments unchanged. -/
theorem frame_pi : Cert.quiescent_KernelIdeal := fun m ρ _ => Cert.KernelIdeal.Gen.frame m ρ
/-- The idealized reference ends quietly, its arguments unchanged. -/
theorem frame_ri : Cert.quiescent_ReferenceIdeal := fun m ρ _ => Cert.ReferenceIdeal.Gen.frame m ρ

/-- Each rewriting between the kernel and the idealized kernel is an instance of its rule. -/
theorem preserves : Cert.preserves_Kernel_KernelIdeal :=
  ⟨IdealRules.named_const.statement Cert.KernelIdeal.κ "log2_beta1" .f32 0xBE1BA6B3#32 (((Real.log (9 / 10)) * (Real.log 2)⁻¹ : ℝ) : EReal) rfl,
    IdealRules.named_const.statement Cert.KernelIdeal.κ "log2_beta2" .f32 0xBD978D9E#32 (((Real.log (19 / 20)) * (Real.log 2)⁻¹ : ℝ) : EReal) rfl,
    IdealRules.named_const.statement Cert.KernelIdeal.κ "ln2" .f32 0x3F317218#32 ((Real.log 2 : ℝ) : EReal) rfl,
    IdealRules.named_const.statement Cert.KernelIdeal.κ "log2_max" .f32 0x410CEAED#32 (((Real.log 448) * (Real.log 2)⁻¹ : ℝ) : EReal) rfl,
    IdealRules.sign_bit.statement Cert.KernelIdeal.S32x128 .f32,
    IdealRules.named_const.statement Cert.KernelIdeal.κ "beta1" .f32 0x3F666666#32 ((9 / 10 : ℝ) : EReal) rfl,
    IdealRules.named_const.statement Cert.KernelIdeal.κ "beta2" .f32 0x3F733333#32 ((19 / 20 : ℝ) : EReal) rfl,
    IdealRules.named_const.statement Cert.KernelIdeal.κ "log2_range_8" .f32 0x400E7576#32 ((((Real.log 229376) * (Real.log 2)⁻¹) * 8⁻¹ : ℝ) : EReal) rfl,
    IdealRules.named_const.statement Cert.KernelIdeal.κ "log2_range" .f32 0x418E7576#32 (((Real.log 229376) * (Real.log 2)⁻¹ : ℝ) : EReal) rfl⟩

/-- The idealized kernel's seven results are the idealized reference's. -/
theorem algebraic : Cert.algebraic_KernelIdeal_ReferenceIdeal := by
  intro m g m' g' _ hagree
  refine ⟨_, _, _, _, _, _, _, Cert.KernelIdeal.Run.run m g, ?_⟩
  refine (θ_run _ _ _).mono (fun r h c => ?_) (Cert.ReferenceIdeal.Value.run_blocks m' g')
  obtain ⟨h0, h1, h2, h3, h4, h5, h6, rest⟩ := h c
  obtain ⟨a0, a1, a2, a3, a4, a5, a6, a7, a8⟩ := hagree c
  have e1 : Cert.ReferenceIdeal.Val.m1 m' c = Cert.KernelIdeal.Load.m1 m c := by
    unfold Cert.ReferenceIdeal.Val.m1 Cert.KernelIdeal.Load.m1
    rw [a1, a2, a3, a4]
  have e2 : Cert.ReferenceIdeal.Val.m2 m' c = Cert.KernelIdeal.Load.m2 m c := by
    unfold Cert.ReferenceIdeal.Val.m2 Cert.KernelIdeal.Load.m2
    rw [a1, a5, a6, a7]
  have f9 := Cert.ReferenceIdeal.Val.final9 m' c
  rw [a0, a1, a2, a3, a4, a5, a6, a7, a8] at f9
  exact ⟨h0.trans f9,
    h1.trans ((Cert.ReferenceIdeal.Val.final10 m' c).trans (congrArg codes e1)),
    h2.trans ((Cert.ReferenceIdeal.Val.final11 m' c).trans (congrArg scales e1)),
    h3.trans ((Cert.ReferenceIdeal.Val.final12 m' c).trans (congrArg powers e1)),
    h4.trans ((Cert.ReferenceIdeal.Val.final13 m' c).trans (congrArg codes e2)),
    h5.trans ((Cert.ReferenceIdeal.Val.final14 m' c).trans (congrArg scales e2)),
    h6.trans ((Cert.ReferenceIdeal.Val.final15 m' c).trans (congrArg powers e2)),
    rest⟩

/-- The whole claim. -/
theorem claim : Cert.Claim := ⟨Cert.Kernel.Gen.facts, Cert.KernelIdeal.Gen.facts, Cert.ReferenceIdeal.Gen.facts,
  frame_p, frame_pi, frame_ri, preserves, algebraic⟩

end Cert.Proof

end
